-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ranges [hPre_ranges : Cert.Pre_ranges.Facts] (m : (ℓ : Loc Cert.KernelIdeal.nD Cert.KernelIdeal.τ Cert.KernelIdeal.sig) → Buf (Elt Ideal) ℓ) : Prop :=
  ∀ c : Dev Cert.KernelIdeal.nD,
    (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ranges [hPre_ranges : Cert.Pre_ranges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_ranges [hKernelIdeal : Cert.KernelIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ranges m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_ranges [hReferenceIdeal : Cert.ReferenceIdeal.Facts] [hPre_ranges : Cert.Pre_ranges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ranges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "log2_beta1" .f32 0xBE1BA6B5#32 (((Real.log (7549747 / 8388608)) * (Real.log 2)⁻¹ : ℝ) : EReal)
  ∧ IdealRules.named_const.Statement Cert.KernelIdeal.κ "log2_beta2" .f32 0xBABD3069#32 (((Real.log (16760439 / 16777216)) * (Real.log 2)⁻¹ : ℝ) : EReal)
  ∧ IdealRules.named_const.Statement Cert.KernelIdeal.κ "eps_over_lr" .f32 0x3727C5AC#32 ((1 / 100000 : ℝ) : EReal)
  ∧ IdealRules.named_const.Statement Cert.KernelIdeal.κ "minus_lr_decay" .f32 0xB727C5AC#32 ((-1 / 100000 : ℝ) : EReal)

def algebraic_KernelIdeal_ReferenceIdeal_pre_ranges [hKernelIdeal : Cert.KernelIdeal.Facts] [hReferenceIdeal : Cert.ReferenceIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ranges m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_ranges : Cert.Pre_ranges.Facts),
    quiescent_Kernel (hKernel := hKernel)
    ∧ quiescent_KernelIdeal (hKernelIdeal := hKernelIdeal)
    ∧ quiescent_KernelIdeal_pre_ranges (hKernelIdeal := hKernelIdeal) (hPre_ranges := hPre_ranges)
    ∧ quiescent_ReferenceIdeal (hReferenceIdeal := hReferenceIdeal)
    ∧ quiescent_ReferenceIdeal_pre_ranges (hReferenceIdeal := hReferenceIdeal) (hPre_ranges := hPre_ranges)
    ∧ preserves_Kernel_KernelIdeal
    ∧ algebraic_KernelIdeal_ReferenceIdeal_pre_ranges (hKernelIdeal := hKernelIdeal) (hReferenceIdeal := hReferenceIdeal) (hPre_ranges := hPre_ranges)
-- ==== Pre_ranges.lean ====
abbrev S23552x2048 : Shape := ⟨2, ![23552, 2048]⟩
abbrev S184x2048 : Shape := ⟨2, ![184, 2048]⟩
abbrev S_ : Shape := ⟨0, ![]⟩

class Facts : Prop where
  bitsLt_bf16_f32 : FTy.bits .bf16 < FTy.bits .f32
  bcast_S_S23552x2048 : S_.BroadcastsInDim S23552x2048 (![] : Fin 0 → Fin S23552x2048.rank)
  bcast_S_S184x2048 : S_.BroadcastsInDim S184x2048 (![] : Fin 0 → Fin S184x2048.rank)

variable [Facts]

def fn_part1 {F : FTy → Type} [FloatOps F] (main_arg5 : FVec F S184x2048 .f32) (main_arg6 : IVec S_ 32) (main_v3 : IVec S23552x2048 1) (main_v8 : IVec S23552x2048 1) (main_v11 : IVec S184x2048 1) (main_v13 : IVec S23552x2048 1) (main_v15 : IVec S184x2048 1) (main_v16 : FVec F S184x2048 .f32) : IVec S23552x2048 1 × IVec S23552x2048 1 × IVec S184x2048 1 × IVec S23552x2048 1 × IVec S184x2048 1 × IVec S_ 1 :=
  let main_v17 : IVec S184x2048 1 := cmpf .ole main_arg5 main_v16
  let main_v18 : IVec S184x2048 1 := andi main_v15 main_v17
  let main_c_5 : IVec S_ 32 := constantI S_ 32 1#32
  let main_v19 : IVec S_ 1 := cmpi .sge main_arg6 main_c_5
  (main_v3, main_v8, main_v11, main_v13, main_v18, main_v19)

def fn {F : FTy → Type} [FloatOps F] (main_arg0 : FVec F S23552x2048 .f32) (main_arg1 : FVec F S23552x2048 .bf16) (main_arg2 : IVec S23552x2048 8) (main_arg3 : FVec F S184x2048 .f32) (main_arg4 : IVec S23552x2048 8) (main_arg5 : FVec F S184x2048 .f32) (main_arg6 : IVec S_ 32) : IVec S23552x2048 1 × IVec S23552x2048 1 × IVec S184x2048 1 × IVec S23552x2048 1 × IVec S184x2048 1 × IVec S_ 1 :=
  let main_v0 : FVec F S23552x2048 .f32 := (extf .f32 · bitsLt_bf16_f32) main_arg1
  let main_v1 : FVec F S23552x2048 .f32 := Host.absf main_v0
  let main_cst : FVec F S_ .f32 := constant S_ .f32 0x5F800000#32
  let main_v2 : FVec F S23552x2048 .f32 := broadcastInDim S23552x2048 ![] bcast_S_S23552x2048 main_cst
  let main_v3 : IVec S23552x2048 1 := cmpf .ole main_v1 main_v2
  let main_c : IVec S_ 8 := constantI S_ 8 127#8
  let main_v4 : IVec S23552x2048 8 := broadcastInDim S23552x2048 ![] bcast_S_S23552x2048 main_c
  let main_v5 : IVec S23552x2048 1 := cmpi .ne main_arg2 main_v4
  let main_c_0 : IVec S_ 8 := constantI S_ 8 255#8
  let main_v6 : IVec S23552x2048 8 := broadcastInDim S23552x2048 ![] bcast_S_S23552x2048 main_c_0
  let main_v7 : IVec S23552x2048 1 := cmpi .ne main_arg2 main_v6
  let main_v8 : IVec S23552x2048 1 := andi main_v5 main_v7
  let main_v9 : FVec F S184x2048 .f32 := Host.absf main_arg3
  let main_cst_1 : FVec F S_ .f32 := constant S_ .f32 0x7E000000#32
  let main_v10 : FVec F S184x2048 .f32 := broadcastInDim S184x2048 ![] bcast_S_S184x2048 main_cst_1
  let main_v11 : IVec S184x2048 1 := cmpf .ole main_v9 main_v10
  let main_c_2 : IVec S_ 8 := constantI S_ 8 124#8
  let main_v12 : IVec S23552x2048 8 := broadcastInDim S23552x2048 ![] bcast_S_S23552x2048 main_c_2
  let main_v13 : IVec S23552x2048 1 := cmpi .ult main_arg4 main_v12
  let main_cst_3 : FVec F S_ .f32 := constant S_ .f32 0x00000000#32
  let main_v14 : FVec F S184x2048 .f32 := broadcastInDim S184x2048 ![] bcast_S_S184x2048 main_cst_3
  let main_v15 : IVec S184x2048 1 := cmpf .oge main_arg5 main_v14
  let main_cst_4 : FVec F S_ .f32 := constant S_ .f32 0x7E000000#32
  let main_v16 : FVec F S184x2048 .f32 := broadcastInDim S184x2048 ![] bcast_S_S184x2048 main_cst_4
  fn_part1 (F := F) main_arg5 main_arg6 main_v3 main_v8 main_v11 main_v13 main_v15 main_v16
-- ==== Kernel.lean ====
abbrev S23552x2048 : Shape := ⟨2, ![23552, 2048]⟩
abbrev S184x2048 : Shape := ⟨2, ![184, 2048]⟩
abbrev S_ : Shape := ⟨0, ![]⟩
abbrev S1 : Shape := ⟨1, ![1]⟩
abbrev S1024x512 : Shape := ⟨2, ![1024, 512]⟩
abbrev S8x512 : Shape := ⟨2, ![8, 512]⟩
abbrev S1x128 : Shape := ⟨2, ![1, 128]⟩
abbrev S128x128 : Shape := ⟨2, ![128, 128]⟩
abbrev S128 : Shape := ⟨1, ![128]⟩
abbrev S256x128 : Shape := ⟨2, ![256, 128]⟩

abbrev nBuf : Space → Nat
  | .hbm => 15
  | .vmem => 22
  | .smem => 1
  | _ => 0

abbrev bufTy : (tb : Table) → Fin (tcTables nBuf tb) → BufTy
  | .hbm, ⟨0, _⟩ => ⟨S23552x2048, .f32⟩
  | .hbm, ⟨1, _⟩ => ⟨S23552x2048, .bf16⟩
  | .hbm, ⟨2, _⟩ => ⟨S23552x2048, .i8⟩
  | .hbm, ⟨3, _⟩ => ⟨S184x2048, .f32⟩
  | .hbm, ⟨4, _⟩ => ⟨S23552x2048, .i8⟩
  | .hbm, ⟨5, _⟩ => ⟨S184x2048, .f32⟩
  | .hbm, ⟨6, _⟩ => ⟨S_, .i32⟩
  | .hbm, ⟨7, _⟩ => ⟨S23552x2048, .fp8e4m3⟩
  | .hbm, ⟨8, _⟩ => ⟨S23552x2048, .fp8e5m2⟩
  | .hbm, ⟨9, _⟩ => ⟨S1, .i32⟩
  | .hbm, ⟨10, _⟩ => ⟨S23552x2048, .f32⟩
  | .hbm, ⟨11, _⟩ => ⟨S23552x2048, .fp8e4m3⟩
  | .hbm, ⟨12, _⟩ => ⟨S184x2048, .f32⟩
  | .hbm, ⟨13, _⟩ => ⟨S23552x2048, .fp8e5m2⟩
  | .hbm, ⟨14, _⟩ => ⟨S184x2048, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1024x512, .fp8e4m3⟩
  | .local _ .vmem, ⟨5, _⟩ => ⟨S1024x512, .fp8e4m3⟩
  | .local _ .vmem, ⟨6, _⟩ => ⟨S8x512, .f32⟩
  | .local _ .vmem, ⟨7, _⟩ => ⟨S8x512, .f32⟩
  | .local _ .vmem, ⟨8, _⟩ => ⟨S1024x512, .fp8e5m2⟩
  | .local _ .vmem, ⟨9, _⟩ => ⟨S1024x512, .fp8e5m2⟩
  | .local _ .vmem, ⟨10, _⟩ => ⟨S8x512, .f32⟩
  | .local _ .vmem, ⟨11, _⟩ => ⟨S8x512, .f32⟩
  | .local _ .vmem, ⟨12, _⟩ => ⟨S1024x512, .f32⟩
  | .local _ .vmem, ⟨13, _⟩ => ⟨S1024x512, .f32⟩
  | .local _ .vmem, ⟨14, _⟩ => ⟨S1024x512, .fp8e4m3⟩
  | .local _ .vmem, ⟨15, _⟩ => ⟨S1024x512, .fp8e4m3⟩
  | .local _ .vmem, ⟨16, _⟩ => ⟨S8x512, .f32⟩
  | .local _ .vmem, ⟨17, _⟩ => ⟨S8x512, .f32⟩
  | .local _ .vmem, ⟨18, _⟩ => ⟨S1024x512, .fp8e5m2⟩
  | .local _ .vmem, ⟨19, _⟩ => ⟨S1024x512, .fp8e5m2⟩
  | .local _ .vmem, ⟨20, _⟩ => ⟨S8x512, .f32⟩
  | .local _ .vmem, ⟨21, _⟩ => ⟨S8x512, .f32⟩
  | .local _ .smem, ⟨0, _⟩ => ⟨S1, .i32⟩
  | _, _ => ⟨S23552x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![23, 4], ![false, false]⟩

@[reducible] def k0_t1_loop : Scf.Loop 32 :=
  let c0_i32 : BitVec 32 := 0#32
  let c4_i32 : BitVec 32 := 4#32
  let v19 : BitVec 32 := Scalar.addi c0_i32 c4_i32
  let c1_i32 : BitVec 32 := 1#32
  ⟨c0_i32, v19, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c128_i32 : BitVec 32 := 128#32
  let v20 : BitVec 32 := Scalar.muli arg14 c128_i32
  v20
def k0_off1 (k0_t1 : Fin k0_t1_loop.trips) : Fin 2 → Nat :=
  let c0_6 : Index := 0#32
  let c0_i32 : BitVec 32 := 0#32
  let c1_i32 : BitVec 32 := 1#32
  let arg14 : BitVec 32 := Scf.iv c0_i32 c1_i32 k0_t1
  let c128_i32 : BitVec 32 := 128#32
  let v20 : BitVec 32 := Scalar.muli arg14 c128_i32
  let v21 : BitVec 32 := v20
  let v22 : Index := Scalar.indexCast v21
  ![0, v22.toNat]
def k0_off2 (k0_t1 : Fin k0_t1_loop.trips) : Fin 2 → Nat :=
  let c0_10 : Index := 0#32
  let c0_i32 : BitVec 32 := 0#32
  let c1_i32 : BitVec 32 := 1#32
  let arg14 : BitVec 32 := Scf.iv c0_i32 c1_i32 k0_t1
  let c128_i32 : BitVec 32 := 128#32
  let v20 : BitVec 32 := Scalar.muli arg14 c128_i32
  let v21 : BitVec 32 := v20
  let v30 : Index := Scalar.indexCast v21
  ![0, v30.toNat]
def k0_off3 (k0_t1 : Fin k0_t1_loop.trips) : Fin 2 → Nat :=
  let c1 : Index := 1#32
  let c0_i32 : BitVec 32 := 0#32
  let c1_i32 : BitVec 32 := 1#32
  let arg14 : BitVec 32 := Scf.iv c0_i32 c1_i32 k0_t1
  let c128_i32 : BitVec 32 := 128#32
  let v20 : BitVec 32 := Scalar.muli arg14 c128_i32
  let v21 : BitVec 32 := v20
  let v149 : Index := Scalar.indexCast v21
  ![1, v149.toNat]
def k0_off4 (k0_t1 : Fin k0_t1_loop.trips) : Fin 2 → Nat :=
  let c128 : Index := 128#32
  let c0_i32 : BitVec 32 := 0#32
  let c1_i32 : BitVec 32 := 1#32
  let arg14 : BitVec 32 := Scf.iv c0_i32 c1_i32 k0_t1
  let c128_i32 : BitVec 32 := 128#32
  let v20 : BitVec 32 := Scalar.muli arg14 c128_i32
  let v21 : BitVec 32 := v20
  let v157 : Index := Scalar.indexCast v21
  ![128, v157.toNat]
def k0_off5 (k0_t1 : Fin k0_t1_loop.trips) : Fin 2 → Nat :=
  let c2 : Index := 2#32
  let c0_i32 : BitVec 32 := 0#32
  let c1_i32 : BitVec 32 := 1#32
  let arg14 : BitVec 32 := Scf.iv c0_i32 c1_i32 k0_t1
  let c128_i32 : BitVec 32 := 128#32
  let v20 : BitVec 32 := Scalar.muli arg14 c128_i32
  let v21 : BitVec 32 := v20
  let v276 : Index := Scalar.indexCast v21
  ![2, v276.toNat]
def k0_off6 (k0_t1 : Fin k0_t1_loop.trips) : Fin 2 → Nat :=
  let c256 : Index := 256#32
  let c0_i32 : BitVec 32 := 0#32
  let c1_i32 : BitVec 32 := 1#32
  let arg14 : BitVec 32 := Scf.iv c0_i32 c1_i32 k0_t1
  let c128_i32 : BitVec 32 := 128#32
  let v20 : BitVec 32 := Scalar.muli arg14 c128_i32
  let v21 : BitVec 32 := v20
  let v284 : Index := Scalar.indexCast v21
  ![256, v284.toNat]
def k0_off7 (k0_t1 : Fin k0_t1_loop.trips) : Fin 2 → Nat :=
  let c3 : Index := 3#32
  let c0_i32 : BitVec 32 := 0#32
  let c1_i32 : BitVec 32 := 1#32
  let arg14 : BitVec 32 := Scf.iv c0_i32 c1_i32 k0_t1
  let c128_i32 : BitVec 32 := 128#32
  let v20 : BitVec 32 := Scalar.muli arg14 c128_i32
  let v21 : BitVec 32 := v20
  let v403 : Index := Scalar.indexCast v21
  ![3, v403.toNat]
def k0_off8 (k0_t1 : Fin k0_t1_loop.trips) : Fin 2 → Nat :=
  let c384 : Index := 384#32
  let c0_i32 : BitVec 32 := 0#32
  let c1_i32 : BitVec 32 := 1#32
  let arg14 : BitVec 32 := Scf.iv c0_i32 c1_i32 k0_t1
  let c128_i32 : BitVec 32 := 128#32
  let v20 : BitVec 32 := Scalar.muli arg14 c128_i32
  let v21 : BitVec 32 := v20
  let v411 : Index := Scalar.indexCast v21
  ![384, v411.toNat]
def k0_off9 (k0_t1 : Fin k0_t1_loop.trips) : Fin 2 → Nat :=
  let c4 : Index := 4#32
  let c0_i32 : BitVec 32 := 0#32
  let c1_i32 : BitVec 32 := 1#32
  let arg14 : BitVec 32 := Scf.iv c0_i32 c1_i32 k0_t1
  let c128_i32 : BitVec 32 := 128#32
  let v20 : BitVec 32 := Scalar.muli arg14 c128_i32
  let v21 : BitVec 32 := v20
  let v530 : Index := Scalar.indexCast v21
  ![4, v530.toNat]
def k0_off10 (k0_t1 : Fin k0_t1_loop.trips) : Fin 2 → Nat :=
  let c512 : Index := 512#32
  let c0_i32 : BitVec 32 := 0#32
  let c1_i32 : BitVec 32 := 1#32
  let arg14 : BitVec 32 := Scf.iv c0_i32 c1_i32 k0_t1
  let c128_i32 : BitVec 32 := 128#32
  let v20 : BitVec 32 := Scalar.muli arg14 c128_i32
  let v21 : BitVec 32 := v20
  let v538 : Index := Scalar.indexCast v21
  ![512, v538.toNat]
def k0_off11 (k0_t1 : Fin k0_t1_loop.trips) : Fin 2 → Nat :=
  let c5 : Index := 5#32
  let c0_i32 : BitVec 32 := 0#32
  let c1_i32 : BitVec 32 := 1#32
  let arg14 : BitVec 32 := Scf.iv c0_i32 c1_i32 k0_t1
  let c128_i32 : BitVec 32 := 128#32
  let v20 : BitVec 32 := Scalar.muli arg14 c128_i32
  let v21 : BitVec 32 := v20
  let v657 : Index := Scalar.indexCast v21
  ![5, v657.toNat]
def k0_off12 (k0_t1 : Fin k0_t1_loop.trips) : Fin 2 → Nat :=
  let c640 : Index := 640#32
  let c0_i32 : BitVec 32 := 0#32
  let c1_i32 : BitVec 32 := 1#32
  let arg14 : BitVec 32 := Scf.iv c0_i32 c1_i32 k0_t1
  let c128_i32 : BitVec 32 := 128#32
  let v20 : BitVec 32 := Scalar.muli arg14 c128_i32
  let v21 : BitVec 32 := v20
  let v665 : Index := Scalar.indexCast v21
  ![640, v665.toNat]
def k0_off13 (k0_t1 : Fin k0_t1_loop.trips) : Fin 2 → Nat :=
  let c6 : Index := 6#32
  let c0_i32 : BitVec 32 := 0#32
  let c1_i32 : BitVec 32 := 1#32
  let arg14 : BitVec 32 := Scf.iv c0_i32 c1_i32 k0_t1
  let c128_i32 : BitVec 32 := 128#32
  let v20 : BitVec 32 := Scalar.muli arg14 c128_i32
  let v21 : BitVec 32 := v20
  let v784 : Index := Scalar.indexCast v21
  ![6, v784.toNat]
def k0_off14 (k0_t1 : Fin k0_t1_loop.trips) : Fin 2 → Nat :=
  let c768 : Index := 768#32
  let c0_i32 : BitVec 32 := 0#32
  let c1_i32 : BitVec 32 := 1#32
  let arg14 : BitVec 32 := Scf.iv c0_i32 c1_i32 k0_t1
  let c128_i32 : BitVec 32 := 128#32
  let v20 : BitVec 32 := Scalar.muli arg14 c128_i32
  let v21 : BitVec 32 := v20
  let v792 : Index := Scalar.indexCast v21
  ![768, v792.toNat]
def k0_off15 (k0_t1 : Fin k0_t1_loop.trips) : Fin 2 → Nat :=
  let c7 : Index := 7#32
  let c0_i32 : BitVec 32 := 0#32
  let c1_i32 : BitVec 32 := 1#32
  let arg14 : BitVec 32 := Scf.iv c0_i32 c1_i32 k0_t1
  let c128_i32 : BitVec 32 := 128#32
  let v20 : BitVec 32 := Scalar.muli arg14 c128_i32
  let v21 : BitVec 32 := v20
  let v911 : Index := Scalar.indexCast v21
  ![7, v911.toNat]
def k0_off16 (k0_t1 : Fin k0_t1_loop.trips) : Fin 2 → Nat :=
  let c896 : Index := 896#32
  let c0_i32 : BitVec 32 := 0#32
  let c1_i32 : BitVec 32 := 1#32
  let arg14 : BitVec 32 := Scf.iv c0_i32 c1_i32 k0_t1
  let c128_i32 : BitVec 32 := 128#32
  let v20 : BitVec 32 := Scalar.muli arg14 c128_i32
  let v21 : BitVec 32 := v20
  let v919 : Index := Scalar.indexCast v21
  ![896, v919.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .fp8e5m2 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "eps_over_lr" => some ((1 / 100000 : ℝ) : EReal)
  | "log2_beta1" => some (((Real.log (7549747 / 8388608)) * (Real.log 2)⁻¹ : ℝ) : EReal)
  | "log2_beta2" => some (((Real.log (16760439 / 16777216)) * (Real.log 2)⁻¹ : ℝ) : EReal)
  | "minus_lr_decay" => some ((-1 / 100000 : ℝ) : EReal)
  | _ => none
-- ==== ReferenceIdeal.lean ====
abbrev S23552x2048 : Shape := ⟨2, ![23552, 2048]⟩
abbrev S184x2048 : Shape := ⟨2, ![184, 2048]⟩
abbrev S_ : Shape := ⟨0, ![]⟩
abbrev S1 : Shape := ⟨1, ![1]⟩
abbrev S184x128x2048 : Shape := ⟨3, ![184, 128, 2048]⟩
abbrev S184x1x2048 : Shape := ⟨3, ![184, 1, 2048]⟩

abbrev nBuf : Space → Nat
  | .hbm => 15
  | .vmem => 11
  | .smem => 1
  | _ => 0

abbrev bufTy : (tb : Table) → Fin (tcTables nBuf tb) → BufTy
  | .hbm, ⟨0, _⟩ => ⟨S23552x2048, .f32⟩
  | .hbm, ⟨1, _⟩ => ⟨S23552x2048, .bf16⟩
  | .hbm, ⟨2, _⟩ => ⟨S23552x2048, .i8⟩
  | .hbm, ⟨3, _⟩ => ⟨S184x2048, .f32⟩
  | .hbm, ⟨4, _⟩ => ⟨S23552x2048, .i8⟩
  | .hbm, ⟨5, _⟩ => ⟨S184x2048, .f32⟩
  | .hbm, ⟨6, _⟩ => ⟨S_, .i32⟩
  | .hbm, ⟨7, _⟩ => ⟨S23552x2048, .fp8e4m3⟩
  | .hbm, ⟨8, _⟩ => ⟨S23552x2048, .fp8e5m2⟩
  | .hbm, ⟨9, _⟩ => ⟨S1, .i32⟩
  | .hbm, ⟨10, _⟩ => ⟨S23552x2048, .f32⟩
  | .hbm, ⟨11, _⟩ => ⟨S23552x2048, .fp8e4m3⟩
  | .hbm, ⟨12, _⟩ => ⟨S184x2048, .f32⟩
  | .hbm, ⟨13, _⟩ => ⟨S23552x2048, .fp8e5m2⟩
  | .hbm, ⟨14, _⟩ => ⟨S184x2048, .f32⟩
  | .local _ .vmem, ⟨0, _⟩ => ⟨S23552x2048, .f32⟩
  | .local _ .vmem, ⟨1, _⟩ => ⟨S23552x2048, .bf16⟩
  | .local _ .vmem, ⟨2, _⟩ => ⟨S23552x2048, .fp8e4m3⟩
  | .local _ .vmem, ⟨3, _⟩ => ⟨S184x2048, .f32⟩
  | .local _ .vmem, ⟨4, _⟩ => ⟨S23552x2048, .fp8e5m2⟩
  | .local _ .vmem, ⟨5, _⟩ => ⟨S184x2048, .f32⟩
  | .local _ .vmem, ⟨6, _⟩ => ⟨S23552x2048, .f32⟩
  | .local _ .vmem, ⟨7, _⟩ => ⟨S23552x2048, .fp8e4m3⟩
  | .local _ .vmem, ⟨8, _⟩ => ⟨S184x2048, .f32⟩
  | .local _ .vmem, ⟨9, _⟩ => ⟨S23552x2048, .fp8e5m2⟩
  | .local _ .vmem, ⟨10, _⟩ => ⟨S184x2048, .f32⟩
  | .local _ .smem, ⟨0, _⟩ => ⟨S1, .i32⟩
  | _, _ => ⟨S23552x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F] [Named F]

def κ : String → Option EReal := fun
  | "eps" => some ((1 / 100000000 : ℝ) : EReal)
  | "ln2" => some ((Real.log 2 : ℝ) : EReal)
  | "minus_lr" => some ((-1 / 1000 : ℝ) : EReal)
  | "weight_decay" => some ((1 / 100 : ℝ) : EReal)
  | _ => none

abbrev grid0 : Pipeline.Grid := .none

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S23552x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S23552x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S23552x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S184x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S23552x2048 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S184x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S23552x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S23552x2048 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S184x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S23552x2048 .fp8e5m2 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S184x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Consts.lean ====
/- The values of the float constants that the two programs print. -/
module

public import Idealize.ShloMosaic.Lib.Pipeline.ValueKit

@[expose] public section

set_option maxRecDepth 16384

noncomputable section

namespace Cert.Consts

open Idealize.ShloMosaic

theorem beta1 : Ideal.ofBits .f32 0x3F666666#32 = ((7549747 / 8388608 : ℝ) : EReal) := by
  simp [Ideal.ofBits, Ideal.ieee, -EReal.coe_mul]; norm_num

theorem beta2 : Ideal.ofBits .f32 0x3F7FBE77#32 = ((16760439 / 16777216 : ℝ) : EReal) := by
  simp [Ideal.ofBits, Ideal.ieee, -EReal.coe_mul]; norm_num

theorem rest1 : Ideal.ofBits .f32 0x3DCCCCCD#32 = ((13421773 / 134217728 : ℝ) : EReal) := by
  simp [Ideal.ofBits, Ideal.ieee, -EReal.coe_mul]; norm_num

theorem rest2 : Ideal.ofBits .f32 0x3A83126F#32 = ((8589935 / 8589934592 : ℝ) : EReal) := by
  simp [Ideal.ofBits, Ideal.ieee, -EReal.coe_mul]; norm_num

theorem invMaxM : Ideal.ofBits .f32 0x3B124925#32 = ((9586981 / 4294967296 : ℝ) : EReal) := by
  simp [Ideal.ofBits, Ideal.ieee, -EReal.coe_mul]; norm_num

theorem invMaxV : Ideal.ofBits .f32 0x37924925#32 = ((9586981 / 549755813888 : ℝ) : EReal) := by
  simp [Ideal.ofBits, Ideal.ieee, -EReal.coe_mul]; norm_num

theorem thousand : Ideal.ofBits .f32 0x447A0000#32 = ((1000 : ℝ) : EReal) := by
  simp [Ideal.ofBits, Ideal.ieee, -EReal.coe_mul]; norm_num

theorem one : Ideal.ofBits .f32 0x3F800000#32 = ((1 : ℝ) : EReal) := by
  simp [Ideal.ofBits, Ideal.ieee, -EReal.coe_mul]; norm_num

theorem tiny : Ideal.ofBits .f32 0x00800000#32 = (((2 : ℝ) ^ (-126 : ℤ) : ℝ) : EReal) := by
  simp [Ideal.ofBits, Ideal.ieee, -EReal.coe_mul]; norm_num

theorem bot : Ideal.ofBits .f32 0xFF800000#32 = ⊥ := by
  simp [Ideal.ofBits, Ideal.ieee]

/-- A pattern with only an exponent field is a power of two. -/
theorem power (k : ℕ) (h1 : 1 ≤ k) (h2 : k ≤ 254) :
    Ideal.ofBits .f32 (BitVec.ofNat 32 (k * 2 ^ 23)) = (((2 : ℝ) ^ ((k : ℤ) - 127) : ℝ) : EReal) := by
  have hall : ∀ j : Fin 256, ((BitVec.ofNat 32 (j.val * 2 ^ 23)).extractLsb' 31 1 == 1#1) = false
      ∧ ((BitVec.ofNat 32 (j.val * 2 ^ 23)).extractLsb' 23 8).toNat = j.val
      ∧ ((BitVec.ofNat 32 (j.val * 2 ^ 23)).extractLsb' 0 23).toNat = 0 := by decide +kernel
  obtain ⟨hs, he, hf⟩ := hall ⟨k, by omega⟩
  show Ideal.ieee 8 23 _ = _
  unfold Ideal.ieee
  simp only [show 8 + 23 = 31 from rfl, hs, he, hf]
  rw [if_neg (by norm_num; omega), if_neg (by omega)]
  congr 1
  simp only [Bool.false_eq_true, if_false, Nat.add_zero, one_mul]
  have h23 : ((2 ^ 23 : ℕ) : ℝ) = (2 : ℝ) ^ (23 : ℤ) := by norm_num
  rw [h23, ← zpow_add₀ (by norm_num)]
  congr 1
  push_cast
  ring

theorem gradMax : Ideal.ofBits .f32 0x5F800000#32 = (((2 : ℝ) ^ (64 : ℤ) : ℝ) : EReal) :=
  power 191 (by norm_num) (by norm_num)

theorem scaleMax : Ideal.ofBits .f32 0x7E000000#32 = (((2 : ℝ) ^ (125 : ℤ) : ℝ) : EReal) :=
  power 252 (by norm_num) (by norm_num)

/-- The pattern of infinity. -/
theorem infinity : Ideal.ofBits .f32 (BitVec.ofNat 32 (255 * 2 ^ 23)) = ⊤ := by
  simp [Ideal.ofBits, Ideal.ieee]

end Cert.Consts

end
-- ==== Proof.Scalars.lean ====
/- What the kernel computes for ONE element and for ONE group of 128 elements, as functions of extended reals: the two
   new moments, the parameter update, the power-of-two scale of a group and the clipped codes. -/
module

public import proofs.«01_k».proof.Proof.Gen.KernelIdeal.Skeleton
public import Idealize.ShloMosaic.Lib.Pipeline.ValueKit

@[expose] public section

set_option maxRecDepth 16384

noncomputable section

namespace Cert.KernelIdeal.Scalars

open Cert.KernelIdeal Idealize.ShloMosaic

/-- The new first moment: the old code times its scale, decayed, plus the weighted gradient. -/
def newM (g mc ms : EReal) : EReal :=
  mc * (ms * Ideal.ofBits FTy.f32 0x3F666666#32) + Ideal.ofBits FTy.f32 0x3DCCCCCD#32 * g

/-- The new second moment. -/
def newV (g vc vs : EReal) : EReal :=
  vc * (vs * Ideal.ofBits FTy.f32 0x3F7FBE77#32) + Ideal.ofBits FTy.f32 0x3A83126F#32 * (g * g)

/-- The first moment's bias correction at step `s`. -/
def bias1 (s : BitVec 32) : EReal :=
  1 - FloatOps.exp2 (F := Ideal) (φ := .f32) (FloatOps.sitofp (F := Ideal) FTy.f32 s * Named.named (F := Ideal) κ "log2_beta1" (φ := .f32) 0xBE1BA6B5#32)

/-- The second moment's bias correction at step `s`. -/
def bias2 (s : BitVec 32) : EReal :=
  1 - FloatOps.exp2 (F := Ideal) (φ := .f32) (FloatOps.sitofp (F := Ideal) FTy.f32 s * Named.named (F := Ideal) κ "log2_beta2" (φ := .f32) 0xBABD3069#32)

/-- The update of one parameter. -/
def delta (s : BitVec 32) (p m v : EReal) : EReal :=
  Named.named (F := Ideal) κ "minus_lr_decay" (φ := .f32) 0xB727C5AC#32 * p -
    m * Ideal.div 1 (Ideal.div 1 (Ideal.rsqrt v) * (bias1 s * Ideal.ofBits FTy.f32 0x447A0000#32 * Ideal.rsqrt (bias2 s))
      + bias1 s * Named.named (F := Ideal) κ "eps_over_lr" (φ := .f32) 0x3727C5AC#32)

/-- The largest magnitude of a group. -/
def groupMax (f : Fin 128 → EReal) : EReal :=
  Finset.fold max (Ideal.ofBits FTy.f32 0xFF800000#32) (fun r => FloatOps.absf (F := Ideal) (φ := .f32) (f r)) Finset.univ

/-- The exponent field of `x`, still at its place in a word: the largest of the 256 fields whose float is at most `|x|`. -/
def expField (x : EReal) : BitVec 32 :=
  Finset.fold IntOp.maxsi 0x80000000#32
    (fun k : Fin 256 => if Ideal.ofBits FTy.f32 (IntOp.shli ArithUnit.vector (BitVec.ofNat 32 ↑k) 23#32)
        ≤ FloatOps.absf (F := Ideal) (φ := .f32) x
      then IntOp.shli ArithUnit.vector (BitVec.ofNat 32 ↑k) 23#32 else 0#32) Finset.univ

/-- The word of a group's scale: one exponent above that of `x`, and the word of 1 where that field is special. -/
def scaleWord (x : EReal) : BitVec 32 :=
  Scalar.select (IntOp.ori (IntOp.cmpi CmpIPredicate.eq (expField x) 0#32) (IntOp.cmpi CmpIPredicate.eq (expField x) 0x7F800000#32))
    0x3F800000#32 (IntOp.addi (expField x) 0x00800000#32)

/-- The scale that a scale word denotes. -/
def scaleOf (w : BitVec 32) : EReal := Ideal.ofBits FTy.f32 w

/-- The reciprocal of that scale, by the subtraction of the exponent fields. -/
def invOf (w : BitVec 32) : EReal := Ideal.ofBits FTy.f32 (IntOp.subi 0x7F000000#32 w)

/-- The scale word of a group of first moments. -/
def wordM (f : Fin 128 → EReal) : BitVec 32 := scaleWord (groupMax f * Ideal.ofBits FTy.f32 0x3B124925#32)

/-- The scale word of a group of second moments. -/
def wordV (f : Fin 128 → EReal) : BitVec 32 := scaleWord (groupMax f * Ideal.ofBits FTy.f32 0x37924925#32)

/-- The first moment's code: divided by the group's scale and clipped to the format's range. -/
def codeM (m : EReal) (w : BitVec 32) : EReal :=
  min (Ideal.ofBits FTy.f32 0x43E00000#32) (max (Ideal.ofBits FTy.f32 0xC3E00000#32) (m * invOf w))

/-- The second moment's code. -/
def codeV (v : EReal) (w : BitVec 32) : EReal :=
  min (Ideal.ofBits FTy.f32 0x47600000#32) (max 0 (v * invOf w))

end Cert.KernelIdeal.Scalars

end
-- ==== Proof.RefPayloads.lean ====
/- The reference's scalar functions, in the terms of its printed program, and its vector operations on the whole arrays read at
   an index: what each element of the five results is. A group is 128 rows of one column. -/
module

public import proofs.«01_k».proof.Proof.Gen.ReferenceIdeal.Value
public import Idealize.ShloMosaic.Lib.Pipeline.ValueKit

@[expose] public section

set_option maxRecDepth 16384

noncomputable section

namespace Cert.ReferenceIdeal.Payloads

open Cert.ReferenceIdeal Cert.ReferenceIdeal.Gen Idealize.ShloMosaic Idealize.ShloMosaic.TcCoe
  Idealize.ShloMosaic.Tactic Idealize.SL.Sem

/-- The scale entry of an element's group. -/
def scaleAt (y : S23552x2048.Idx) : S184x2048.Idx :=
  ix2 ⟨(y 0 : ℕ) / 128, by have := (y 0).isLt; simp at this; omega⟩ (y 1)

/-- The `r`-th element of a group. -/
def memberAt (j : S184x2048.Idx) (r : Fin 128) : S23552x2048.Idx :=
  ix2 ⟨128 * (j 0 : ℕ) + r, by have := (j 0).isLt; have := r.isLt; simp at *; omega⟩ (j 1)

/-- The new first moment of an element. -/
def refM (g mc ms : EReal) : EReal := Ideal.ofBits .f32 0x3F666666#32 * (mc * ms) + Ideal.ofBits .f32 0x3DCCCCCD#32 * g

/-- The new second moment of an element. -/
def refV (g vc vs : EReal) : EReal := Ideal.ofBits .f32 0x3F7FBE77#32 * (vc * vs) + Ideal.ofBits .f32 0x3A83126F#32 * (g * g)

/-- The largest magnitude of a group. -/
def groupMax (f : Fin 128 → EReal) : EReal :=
  Finset.fold max (Ideal.ofBits .f32 0xFF800000#32) (fun r => FloatOps.absf (F := Ideal) (φ := .f32) (f r)) Finset.univ

/-- A value below the least normal number counts as zero. -/
def flush (x : EReal) : EReal := if x < Ideal.ofBits .f32 0x00800000#32 then 0 else x

/-- The exponent of a group's scale, from the group's largest magnitude over the format's largest number. -/
def expo (x : EReal) : EReal :=
  if flush x = 0 then 0 else Ideal.liftRound Int.floor (Ideal.div (Ideal.log (flush x)) (Named.named (F := Ideal) (φ := .f32) κ "ln2" 0x3F317218#32)) + 1

/-- The scale of a group. -/
def scale (x : EReal) : EReal := FloatOps.exp2 (F := Ideal) (φ := .f32) (expo x)

/-- One over the scale of a group. -/
def inv (x : EReal) : EReal := FloatOps.exp2 (F := Ideal) (φ := .f32) (0 - expo x)

/-- The scaled magnitude that a first moment's group takes its exponent from. -/
def magM (f : Fin 128 → EReal) : EReal := groupMax f * Ideal.ofBits .f32 0x3B124925#32

/-- The scaled magnitude that a second moment's group takes its exponent from. -/
def magV (f : Fin 128 → EReal) : EReal := groupMax f * Ideal.ofBits .f32 0x37924925#32

/-- The new code of a first moment. -/
def codeM (m x : EReal) : EReal := min (Ideal.ofBits .f32 0x43E00000#32) (max (Ideal.ofBits .f32 0xC3E00000#32) (m * inv x))

/-- The new code of a second moment. -/
def codeV (v x : EReal) : EReal := min (Ideal.ofBits .f32 0x47600000#32) (max 0 (v * inv x))

/-- One minus a decay to the step's power. -/
def bias (s : BitVec 32) (b : BitVec 32) : EReal :=
  1 - Scalar.powf (F := Ideal) (φ := .f32) (Ideal.ofBits .f32 b) ((s.toInt : ℝ) : EReal)

/-- The parameter update of an element. -/
def delta (s : BitVec 32) (p m v : EReal) : EReal :=
  Named.named (F := Ideal) (φ := .f32) κ "minus_lr" 0xBA83126F#32
    * (Ideal.div (Ideal.div m (bias s 0x3F666666#32))
        (Ideal.sqrt (Ideal.div v (bias s 0x3F7FBE77#32)) + Named.named (F := Ideal) (φ := .f32) κ "eps" 0x322BCC77#32)
      + Named.named (F := Ideal) (φ := .f32) κ "weight_decay" 0x3C23D70A#32 * p)

theorem pay2_at (mc : FVec Ideal S23552x2048 .fp8e4m3) (ms : FVec Ideal S184x2048 .f32) (g : FVec Ideal S23552x2048 .bf16) (y : S23552x2048.Idx) :
    k0_pay2 (F := Ideal) mc ms g y = refM (g y) (mc y) (ms (scaleAt y)) := by
  pointwise [k0_pay2, k0_pay1, refM, scaleAt]

theorem pay3_at (vc : FVec Ideal S23552x2048 .fp8e5m2) (vs : FVec Ideal S184x2048 .f32) (g : FVec Ideal S23552x2048 .bf16) (y : S23552x2048.Idx) :
    k0_pay3 (F := Ideal) vc vs g y = refV (g y) (vc y) (vs (scaleAt y)) := by
  pointwise [k0_pay3, k0_pay1, refV, scaleAt]

/-- The largest of the 128 middle coordinates of a three-axis array. -/
theorem rowMax (w : FVec Ideal S184x128x2048 .f32) (h : S184x128x2048.Reduces [1] S184x2048) (hφ) (hacc) (j : S184x2048.Idx) :
    multiReduction (F := Ideal) .maximumf [1] S184x2048 w 0xFF800000#32 h hφ hacc j
      = Finset.fold max (Ideal.ofBits .f32 0xFF800000#32) (fun k : Fin 128 => w (ix3 (j 0) k (j 1))) Finset.univ := by
  refine (Ideal.multiReduction_maximumf_single (s := S184x128x2048) (t := S184x2048) (a := 1) w _ h hφ hacc j).trans ?_
  have : w ∘ h.lift j = fun k : Fin 128 => w (ix3 (j 0) k (j 1)) := by
    funext k
    refine congrArg w (funext fun a => Fin.ext ?_)
    rw [h.lift_val]
    fin_cases a <;> rfl
  rw [this]
  rfl

/-- The magnitudes of an array, by groups, at a member of a group. -/
theorem cube_at (x : FVec Ideal S23552x2048 .f32) (j : S184x2048.Idx) (r : Fin 128) :
    absf (F := Ideal) (shapeCast S184x128x2048 x shapeCasts_S23552x2048_S184x128x2048) (ix3 (j 0) r (j 1))
      = FloatOps.absf (F := Ideal) (φ := .f32) (x (memberAt j r)) := by
  have h : memberAt j r = ix2 ⟨(j 0 : ℕ) * 128 + r, by have := (j 0).isLt; have := r.isLt; simp at *; omega⟩ (j 1) := by
    unfold memberAt
    congr 2
    omega
  rw [h]
  pointwise

/-- The largest magnitudes of an array's groups. -/
theorem groupMax_at (x : FVec Ideal S23552x2048 .f32) (h : S184x128x2048.Reduces [1] S184x2048) (hφ) (hacc) (j : S184x2048.Idx) :
    multiReduction (F := Ideal) .maximumf [1] S184x2048 (absf (shapeCast S184x128x2048 x shapeCasts_S23552x2048_S184x128x2048)) 0xFF800000#32 h hφ hacc j
      = groupMax fun r => x (memberAt j r) := by
  rw [rowMax]
  unfold groupMax
  simp only [cube_at]

/-- The flushed magnitudes, from the scaled ones. -/
def flushed (w : FVec Ideal S184x2048 .f32) : FVec Ideal S184x2048 .f32 :=
  select (cmpf .olt w (broadcast S184x2048 (Scalar.ofBits .f32 0x00800000#32))) (broadcast S184x2048 (Scalar.ofBits .f32 0x00000000#32)) w

theorem flushed_at (w : FVec Ideal S184x2048 .f32) (j : S184x2048.Idx) : flushed w j = flush (w j) := by
  pointwise [flushed, flush]

/-- The scaled largest magnitudes of an array's groups. -/
def scaled (b : BitVec 32) (x : FVec Ideal S23552x2048 .f32) : FVec Ideal S184x2048 .f32 :=
  mulf (multiReduction (F := Ideal) .maximumf [1] S184x2048 (absf (shapeCast S184x128x2048 x shapeCasts_S23552x2048_S184x128x2048)) 0xFF800000#32
    reduces_S184x128x2048_S184x2048 (.inl rfl) rfl) (broadcast S184x2048 (Scalar.ofBits .f32 b))

theorem times_at (w : FVec Ideal S184x2048 .f32) (b : BitVec 32) (j : S184x2048.Idx) :
    mulf w (broadcast S184x2048 (Scalar.ofBits .f32 b)) j = w j * Ideal.ofBits .f32 b := by
  pointwise

theorem scaled_at (b : BitVec 32) (x : FVec Ideal S23552x2048 .f32) (j : S184x2048.Idx) :
    scaled b x j = groupMax (fun r => x (memberAt j r)) * Ideal.ofBits .f32 b := by
  rw [scaled, times_at]
  exact congrArg (· * Ideal.ofBits .f32 b) (groupMax_at x _ _ _ j)

theorem pay4_eq (mc : FVec Ideal S23552x2048 .fp8e4m3) (ms : FVec Ideal S184x2048 .f32) (g : FVec Ideal S23552x2048 .bf16) :
    k0_pay4 (F := Ideal) mc ms g = flushed (scaled 0x3B124925#32 (k0_pay2 mc ms g)) := rfl

theorem pay5_eq (mc : FVec Ideal S23552x2048 .fp8e4m3) (ms : FVec Ideal S184x2048 .f32) (g : FVec Ideal S23552x2048 .bf16) :
    k0_pay5 (F := Ideal) mc ms g = log (flushed (scaled 0x3B124925#32 (k0_pay2 mc ms g))) := rfl

theorem pay9_eq (v : FVec Ideal S23552x2048 .f32) : k0_pay9 (F := Ideal) v = flushed (scaled 0x37924925#32 v) := rfl

theorem pay10_eq (v : FVec Ideal S23552x2048 .f32) :
    k0_pay10 (F := Ideal) v = addf (floor (divf (log (flushed (scaled 0x37924925#32 v))) (broadcast S184x2048 (Named.named κ "ln2" 0x3F317218#32))))
      (broadcast S184x2048 (Scalar.ofBits .f32 0x3F800000#32)) := rfl

/-- The exponents of the first moment's groups, from the scaled magnitudes. -/
theorem expoM_at (w : FVec Ideal S184x2048 .f32) (j : S184x2048.Idx) :
    k0_pay6 (F := Ideal) (flushed w) (log (flushed w)) (Named.named κ "ln2" 0x3F317218#32) j = expo (w j) := by
  pointwise [k0_pay6, flushed_at, expo]

/-- The exponents of the second moment's groups, from the scaled magnitudes. -/
theorem expoV_at (w : FVec Ideal S184x2048 .f32) (j : S184x2048.Idx) :
    k0_pay12 (F := Ideal) (flushed w) (addf (floor (divf (log (flushed w)) (broadcast S184x2048 (Named.named κ "ln2" 0x3F317218#32))))
      (broadcast S184x2048 (Scalar.ofBits .f32 0x3F800000#32))) k0_pay11 j = expo (w j) := by
  pointwise [k0_pay12, k0_pay11, flushed_at, expo]

theorem pay7_at (e l : FVec Ideal S184x2048 .f32) (k : EReal) (j : S184x2048.Idx) :
    k0_pay7 (F := Ideal) e l k j = FloatOps.exp2 (F := Ideal) (φ := .f32) (k0_pay6 (F := Ideal) e l k j) := by
  pointwise [k0_pay7]

theorem pay8_at (x : FVec Ideal S23552x2048 .f32) (e l : FVec Ideal S184x2048 .f32) (k : EReal) (y : S23552x2048.Idx) :
    k0_pay8 (F := Ideal) x e l k y = min (Ideal.ofBits .f32 0x43E00000#32) (max (Ideal.ofBits .f32 0xC3E00000#32)
      (x y * FloatOps.exp2 (F := Ideal) (φ := .f32) (0 - k0_pay6 (F := Ideal) e l k (scaleAt y)))) := by
  pointwise [k0_pay8, scaleAt]

theorem pay13_at (e l z : FVec Ideal S184x2048 .f32) (j : S184x2048.Idx) :
    k0_pay13 (F := Ideal) e l z j = FloatOps.exp2 (F := Ideal) (φ := .f32) (k0_pay12 (F := Ideal) e l z j) := by
  pointwise [k0_pay13]

theorem pay14_at (x : FVec Ideal S23552x2048 .f32) (e l z : FVec Ideal S184x2048 .f32) (y : S23552x2048.Idx) :
    k0_pay14 (F := Ideal) x e l z y = min (Ideal.ofBits .f32 0x47600000#32) (max 0
      (x y * FloatOps.exp2 (F := Ideal) (φ := .f32) (0 - k0_pay12 (F := Ideal) e l z (scaleAt y)))) := by
  pointwise [k0_pay14, scaleAt]

theorem pay15_at (M V P : FVec Ideal S23552x2048 .f32) (s : BitVec 32) (y : S23552x2048.Idx) :
    k0_pay15 (F := Ideal) M V s P y = delta s (P y) (M y) (V y) := by
  pointwise [k0_pay15, delta, bias]

end Cert.ReferenceIdeal.Payloads

end
-- ==== Proof.Exponent.lean ====
/- The scale of a group, from the group's scaled largest magnitude `x`: the kernel's integer arithmetic on exponent fields and
   the reference's logarithm give the same power of two, for every real `0 ≤ x < 2 ^ 126`. -/
module

public import proofs.«01_k».proof.Proof.Consts
public import proofs.«01_k».proof.Proof.Scalars
public import proofs.«01_k».proof.Proof.RefPayloads

@[expose] public section

set_option maxRecDepth 16384

noncomputable section

namespace Cert.Exponent

open Idealize.ShloMosaic

/-- The signed maximum of words, as integers. -/
theorem maxsi_toInt (a b : BitVec 32) : (IntOp.maxsi a b).toInt = max a.toInt b.toInt := by
  unfold IntOp.maxsi
  rw [BitVec.slt]
  by_cases h : b.toInt < a.toInt
  · simp [h, max_eq_left h.le]
  · simp [h, max_eq_right (not_lt.mp h)]

/-- The word of an exponent field. -/
def field (k : ℕ) : BitVec 32 := BitVec.ofNat 32 (k * 2 ^ 23)

theorem field_toInt (k : Fin 256) : (field k).toInt = (k : ℕ) * 2 ^ 23 := by
  revert k
  unfold field
  decide +kernel

theorem shl_field (k : Fin 256) : IntOp.shli ArithUnit.vector (BitVec.ofNat 32 k) 23#32 = field k := by
  revert k
  unfold field
  decide +kernel

/-- The largest of the selected fields is `k`, when exactly the fields up to `k` are selected. -/
theorem fold_fields (p : Fin 256 → Prop) [DecidablePred p] (k : Fin 256) (h : ∀ j : Fin 256, (j : ℕ) ≠ 0 → (p j ↔ j ≤ k)) :
    Finset.fold IntOp.maxsi 0x80000000#32 (fun j : Fin 256 => if p j then field j else 0#32) Finset.univ = field k := by
  apply BitVec.eq_of_toInt_eq
  rw [← Finset.fold_hom (op' := max) (m := BitVec.toInt) maxsi_toInt, field_toInt]
  apply le_antisymm
  · rw [Finset.fold_max_le]
    refine ⟨?_, fun j _ => ?_⟩
    · have : (0x80000000#32).toInt ≤ 0 := by decide
      exact this.trans (by positivity)
    · by_cases hj : (j : ℕ) = 0
      · have h0 : (if p j then field j else 0#32).toInt = 0 := by
          split
          · rw [field_toInt, hj]; rfl
          · rfl
        rw [h0]; positivity
      · split
        · next hp =>
          rw [field_toInt]
          have : (j : ℕ) ≤ k := (h j hj).mp hp
          have : ((j : ℕ) : ℤ) ≤ (k : ℕ) := by exact_mod_cast this
          linarith
        · show (0 : ℤ) ≤ _
          positivity
  · rw [Finset.le_fold_max]
    right
    refine ⟨k, Finset.mem_univ _, ?_⟩
    by_cases hk : (k : ℕ) = 0
    · split
      · rw [field_toInt]
      · rw [hk]
        exact le_of_eq rfl
    · rw [if_pos ((h k hk).mpr le_rfl), field_toInt]

open Cert.KernelIdeal.Scalars in
/-- The exponent field of a real in the binade of `2 ^ (k - 127)`. -/
theorem expField_binade (x : ℝ) (k : ℕ) (h1 : 1 ≤ k) (h2 : k ≤ 252) (hlo : (2 : ℝ) ^ ((k : ℤ) - 127) ≤ x)
    (hhi : x < (2 : ℝ) ^ ((k : ℤ) - 126)) : expField ((x : ℝ) : EReal) = field k := by
  have hx : 0 < x := lt_of_lt_of_le (by positivity) hlo
  unfold expField
  simp only [shl_field]
  refine fold_fields _ ⟨k, by omega⟩ fun j hj => ?_
  have habs : FloatOps.absf (F := Ideal) (φ := .f32) ((x : ℝ) : EReal) = ((x : ℝ) : EReal) := by
    show max ((x : ℝ) : EReal) (-((x : ℝ) : EReal)) = _
    rw [max_eq_left]
    rw [← EReal.coe_neg]
    exact_mod_cast (by linarith : -x ≤ x)
  rw [habs]
  unfold field
  by_cases hj5 : (j : ℕ) = 255
  · rw [hj5, Consts.infinity]
    constructor
    · intro h; exact absurd (top_le_iff.mp h) (EReal.coe_ne_top x)
    · intro h; have : (j : ℕ) ≤ k := h; omega
  · rw [Consts.power j (by omega) (by have := j.isLt; omega)]
    rw [EReal.coe_le_coe_iff]
    constructor
    · intro h
      show (j : ℕ) ≤ k
      have := (zpow_lt_zpow_iff_right₀ (by norm_num : (1 : ℝ) < 2)).mp (h.trans_lt hhi)
      omega
    · intro h
      have : (j : ℕ) ≤ k := h
      exact le_trans (zpow_le_zpow_right₀ (by norm_num) (by omega)) hlo

open Cert.KernelIdeal.Scalars in
/-- The exponent field of a real below the least normal number. -/
theorem expField_small (x : ℝ) (h0 : 0 ≤ x) (hhi : x < (2 : ℝ) ^ (-126 : ℤ)) : expField ((x : ℝ) : EReal) = field 0 := by
  unfold expField
  simp only [shl_field]
  refine fold_fields _ ⟨0, by omega⟩ fun j hj => ?_
  have habs : FloatOps.absf (F := Ideal) (φ := .f32) ((x : ℝ) : EReal) = ((x : ℝ) : EReal) := by
    show max ((x : ℝ) : EReal) (-((x : ℝ) : EReal)) = _
    rw [max_eq_left]
    rw [← EReal.coe_neg]
    exact_mod_cast (by linarith : -x ≤ x)
  rw [habs]
  unfold field
  refine ⟨fun h => ?_, fun h => absurd (Nat.le_zero.mp h) hj⟩
  exfalso
  by_cases hj5 : (j : ℕ) = 255
  · rw [hj5, Consts.infinity] at h
    exact absurd (top_le_iff.mp h) (EReal.coe_ne_top x)
  · rw [Consts.power j (by omega) (by have := j.isLt; omega), EReal.coe_le_coe_iff] at h
    have := (zpow_lt_zpow_iff_right₀ (by norm_num : (1 : ℝ) < 2)).mp (h.trans_lt hhi)
    omega

/-- The binade of a real at or above the least normal number. -/
theorem exists_binade (x : ℝ) (hlo : (2 : ℝ) ^ (-126 : ℤ) ≤ x) (hhi : x < (2 : ℝ) ^ (126 : ℤ)) :
    ∃ k : ℕ, 1 ≤ k ∧ k ≤ 252 ∧ (2 : ℝ) ^ ((k : ℤ) - 127) ≤ x ∧ x < (2 : ℝ) ^ ((k : ℤ) - 126) := by
  have hx : 0 < x := lt_of_lt_of_le (by positivity) hlo
  obtain ⟨n, hn1, hn2⟩ := exists_mem_Ico_zpow hx (by norm_num : (1 : ℝ) < 2)
  have a1 := (zpow_lt_zpow_iff_right₀ (by norm_num : (1 : ℝ) < 2)).mp (hn1.trans_lt hhi)
  have a2 := (zpow_lt_zpow_iff_right₀ (by norm_num : (1 : ℝ) < 2)).mp (hlo.trans_lt hn2)
  refine ⟨(n + 127).toNat, by omega, by omega, ?_, ?_⟩
  · rwa [show (((n + 127).toNat : ℕ) : ℤ) - 127 = n by omega]
  · rwa [show (((n + 127).toNat : ℕ) : ℤ) - 126 = n + 1 by omega]

open Cert.KernelIdeal.Scalars in
/-- The kernel's scale word for an exponent field. -/
theorem word_of_field (k : ℕ) (h1 : 1 ≤ k) (h2 : k ≤ 252) (x : EReal) (h : expField x = field k) :
    scaleWord x = field (k + 1) := by
  have hall : ∀ j : Fin 253, (j : ℕ) ≠ 0 →
      Scalar.select (IntOp.ori (IntOp.cmpi .eq (field j) 0#32) (IntOp.cmpi .eq (field j) 0x7F800000#32)) 0x3F800000#32
        (IntOp.addi (field j) 0x00800000#32) = field (j + 1) := by
    unfold field
    decide +kernel
  unfold scaleWord
  rw [h]
  exact hall ⟨k, by omega⟩ (by show k ≠ 0; omega)

open Cert.KernelIdeal.Scalars in
/-- The kernel's scale word for a zero exponent field. -/
theorem word_of_zero (x : EReal) (h : expField x = field 0) : scaleWord x = field 127 := by
  unfold scaleWord
  rw [h]
  decide +kernel

open Cert.KernelIdeal.Scalars in
/-- One over the kernel's scale is a power of two as well. -/
theorem inv_field (k : ℕ) (h1 : 1 ≤ k) (h2 : k ≤ 253) : invOf (field k) = (((2 : ℝ) ^ (127 - (k : ℤ)) : ℝ) : EReal) := by
  have hall : ∀ j : Fin 254, IntOp.subi 0x7F000000#32 (field j) = field (254 - j) := by
    unfold field
    decide +kernel
  unfold invOf
  rw [hall ⟨k, by omega⟩]
  show Ideal.ofBits .f32 (field (254 - k)) = _
  unfold field
  rw [Consts.power _ (by omega) (by omega)]
  congr 2
  omega

open Cert.KernelIdeal.Scalars in
theorem scale_field (k : ℕ) (h1 : 1 ≤ k) (h2 : k ≤ 253) : scaleOf (field k) = (((2 : ℝ) ^ ((k : ℤ) - 127) : ℝ) : EReal) := by
  unfold scaleOf field
  exact Consts.power _ (by omega) (by omega)

/-- The constant that the reference divides logarithms by. -/
theorem ln2_eq : Named.named (F := Ideal) (φ := .f32) Cert.ReferenceIdeal.κ "ln2" 0x3F317218#32 = ((Real.log 2 : ℝ) : EReal) :=
  IdealRules.named_const.ideal_named_scalar _ _ _ _ rfl

open Cert.ReferenceIdeal.Payloads in
/-- The reference's exponent of a real in the binade of `2 ^ (k - 127)`. -/
theorem expo_binade (x : ℝ) (k : ℕ) (h1 : 1 ≤ k) (hlo : (2 : ℝ) ^ ((k : ℤ) - 127) ≤ x)
    (hhi : x < (2 : ℝ) ^ ((k : ℤ) - 126)) : expo ((x : ℝ) : EReal) = (((k : ℝ) - 126 : ℝ) : EReal) := by
  have hx : 0 < x := lt_of_lt_of_le (by positivity) hlo
  have hmin : (2 : ℝ) ^ (-126 : ℤ) ≤ x := le_trans (zpow_le_zpow_right₀ (by norm_num) (by omega)) hlo
  have hfl : flush ((x : ℝ) : EReal) = ((x : ℝ) : EReal) := by
    unfold flush
    rw [Consts.tiny, if_neg]
    rw [EReal.coe_lt_coe_iff]
    exact not_lt.mpr hmin
  have hlog2 : 0 < Real.log 2 := Real.log_pos (by norm_num)
  have hfloor : ⌊Real.log x / Real.log 2⌋ = (k : ℤ) - 127 := by
    rw [Int.floor_eq_iff]
    constructor
    · rw [le_div_iff₀ hlog2, ← Real.log_zpow]
      exact Real.log_le_log (by positivity) hlo
    · have : (((k : ℤ) - 127 : ℤ) : ℝ) + 1 = (((k : ℤ) - 126 : ℤ) : ℝ) := by push_cast; ring
      rw [this, div_lt_iff₀ hlog2, ← Real.log_zpow]
      exact Real.log_lt_log hx hhi
  unfold expo
  rw [hfl, if_neg (by exact_mod_cast hx.ne'), ln2_eq, Ideal.log_coe, if_neg (not_le.mpr hx), Ideal.div_coe hlog2.ne', ← EReal.coe_mul,
    Ideal.liftRound_coe]
  rw [mul_one_div, hfloor]
  rw [show (1 : EReal) = ((1 : ℝ) : EReal) from rfl, ← EReal.coe_add]
  congr 1
  push_cast
  ring

open Cert.ReferenceIdeal.Payloads in
/-- The reference's exponent of a real below the least normal number. -/
theorem expo_small (x : ℝ) (hhi : x < (2 : ℝ) ^ (-126 : ℤ)) : expo ((x : ℝ) : EReal) = ((0 : ℝ) : EReal) := by
  have hfl : flush ((x : ℝ) : EReal) = 0 := by
    unfold flush
    rw [Consts.tiny, if_pos]
    exact_mod_cast hhi
  unfold expo
  rw [if_pos hfl]
  rfl

open Cert.ReferenceIdeal.Payloads in
theorem scale_of_expo (x : EReal) (e : ℤ) (h : expo x = ((e : ℝ) : EReal)) :
    scale x = (((2 : ℝ) ^ e : ℝ) : EReal) ∧ Cert.ReferenceIdeal.Payloads.inv x = (((2 : ℝ) ^ (-e) : ℝ) : EReal) := by
  unfold scale Cert.ReferenceIdeal.Payloads.inv
  rw [h]
  constructor
  · show Ideal.exp2 _ = _
    rw [Ideal.exp2_coe]
    congr 1
    exact Real.rpow_intCast 2 e
  · show Ideal.exp2 _ = _
    rw [show (0 : EReal) = ((0 : ℝ) : EReal) from rfl, ← EReal.coe_sub, Ideal.exp2_coe]
    congr 1
    rw [← Real.rpow_intCast 2 (-e)]
    show (2 : ℝ) ^ (0 - (e : ℝ)) = _
    congr 1
    push_cast
    ring

/-- The kernel's scale and its inverse are the reference's. -/
theorem scales_agree (x : ℝ) (h0 : 0 ≤ x) (hhi : x < (2 : ℝ) ^ (126 : ℤ)) :
    Cert.KernelIdeal.Scalars.scaleOf (Cert.KernelIdeal.Scalars.scaleWord ((x : ℝ) : EReal)) = Cert.ReferenceIdeal.Payloads.scale ((x : ℝ) : EReal)
    ∧ Cert.KernelIdeal.Scalars.invOf (Cert.KernelIdeal.Scalars.scaleWord ((x : ℝ) : EReal)) = Cert.ReferenceIdeal.Payloads.inv ((x : ℝ) : EReal) := by
  by_cases hs : x < (2 : ℝ) ^ (-126 : ℤ)
  · rw [word_of_zero _ (expField_small x h0 hs), scale_field 127 (by norm_num) (by norm_num), inv_field 127 (by norm_num) (by norm_num)]
    have := scale_of_expo ((x : ℝ) : EReal) 0 (by rw [expo_small x hs]; norm_num)
    rw [this.1, this.2]
    norm_num
  · obtain ⟨k, h1, h2, hlo, hup⟩ := exists_binade x (not_lt.mp hs) hhi
    rw [word_of_field k h1 h2 _ (expField_binade x k h1 h2 hlo hup), scale_field (k + 1) (by omega) (by omega),
      inv_field (k + 1) (by omega) (by omega)]
    have := scale_of_expo ((x : ℝ) : EReal) ((k : ℤ) - 126) (by rw [expo_binade x k h1 hlo hup]; push_cast; rfl)
    rw [this.1, this.2]
    constructor
    · congr 2
      push_cast
      ring
    · congr 2
      push_cast
      ring

end Cert.Exponent

end
-- ==== Proof.Bounds.lean ====
/- Sizes: the codes of the two formats, the new moments, and the scaled largest magnitudes, under the stated ranges of the
   arguments. -/
module

public import proofs.«01_k».proof.Proof.Exponent

@[expose] public section

set_option maxRecDepth 16384

noncomputable section

namespace Cert.Bounds

open Idealize.ShloMosaic Cert.KernelIdeal.Scalars

/-- An extended real of bounded magnitude is a real. -/
theorem real_of_abs (x : EReal) (M : ℝ) (h : max x (-x) ≤ (M : EReal)) : ∃ a : ℝ, x = (a : EReal) ∧ |a| ≤ M := by
  induction x with
  | bot =>
    rw [EReal.neg_bot, max_eq_right bot_le] at h
    exact absurd (top_le_iff.mp h) (EReal.coe_ne_top M)
  | top =>
    rw [max_eq_left le_top] at h
    exact absurd (top_le_iff.mp h) (EReal.coe_ne_top M)
  | coe a =>
    refine ⟨a, rfl, abs_le.mpr ⟨?_, ?_⟩⟩
    · have h2 := (le_max_right _ _).trans h
      rw [← EReal.coe_neg, EReal.coe_le_coe_iff] at h2
      linarith
    · have h2 := (le_max_left _ _).trans h
      exact EReal.coe_le_coe_iff.mp h2

/-- An extended real between two reals is a real. -/
theorem real_of_between (x : EReal) (L M : ℝ) (h0 : (L : EReal) ≤ x) (h1 : x ≤ (M : EReal)) : ∃ a : ℝ, x = (a : EReal) ∧ L ≤ a ∧ a ≤ M := by
  induction x with
  | bot => exact absurd (le_bot_iff.mp h0) (EReal.coe_ne_bot L)
  | top => exact absurd (top_le_iff.mp h1) (EReal.coe_ne_top M)
  | coe a => exact ⟨a, rfl, EReal.coe_le_coe_iff.mp h0, EReal.coe_le_coe_iff.mp h1⟩

/-- A code of the first moment that is not NaN is a real of magnitude at most 448. -/
theorem codeM_real (b : BitVec 8) (h1 : b ≠ 127#8) (h2 : b ≠ 255#8) :
    ∃ a : ℝ, Ideal.ofBits .fp8e4m3 b = (a : EReal) ∧ |a| ≤ 448 := by
  have hall : ∀ b : BitVec 8, b ≠ 127#8 → b ≠ 255#8 → (b.extractLsb' 3 4).toNat ≤ 15 ∧ (b.extractLsb' 0 3).toNat ≤ 7
      ∧ ¬((b.extractLsb' 3 4).toNat = 15 ∧ (b.extractLsb' 0 3).toNat = 7) := by decide +kernel
  obtain ⟨he, hf, hn⟩ := hall b h1 h2
  show ∃ a : ℝ, Ideal.e4m3fn b = (a : EReal) ∧ |a| ≤ 448
  unfold Ideal.e4m3fn
  generalize (b.extractLsb' 3 4).toNat = e at he hn ⊢
  generalize (b.extractLsb' 0 3).toNat = f at hf hn ⊢
  dsimp only
  rw [if_neg hn]
  have hs : |(if (b.extractLsb' 7 1 == 1#1) = true then -1 else 1 : ℝ)| = 1 := by split <;> norm_num
  generalize (if (b.extractLsb' 7 1 == 1#1) = true then -1 else 1 : ℝ) = s at hs ⊢
  have hf' : (f : ℝ) ≤ 7 := by exact_mod_cast hf
  split
  · refine ⟨_, rfl, ?_⟩
    rw [abs_mul, abs_mul, hs, Nat.abs_cast, abs_of_pos (by positivity)]
    norm_num
    linarith
  · refine ⟨_, rfl, ?_⟩
    rw [abs_mul, abs_mul, hs, Nat.abs_cast, abs_of_pos (by positivity), one_mul]
    push_cast
    by_cases h15 : e = 15
    · have : (f : ℝ) ≤ 6 := by
        have : f ≤ 6 := by omega
        exact_mod_cast this
      subst h15
      norm_num
      linarith
    · have hz : (2 : ℝ) ^ ((e : ℤ) - 10) ≤ (2 : ℝ) ^ (4 : ℤ) := zpow_le_zpow_right₀ (by norm_num) (by omega)
      norm_num at hz
      have hz0 : (0 : ℝ) < (2 : ℝ) ^ ((e : ℤ) - 10) := by positivity
      nlinarith [Nat.cast_nonneg (α := ℝ) f]

/-- A code of the second moment without sign, below infinity, is a real from 0 to 57344. -/
theorem codeV_real (b : BitVec 8) (h : b.toNat < 124) :
    ∃ a : ℝ, Ideal.ofBits .fp8e5m2 b = (a : EReal) ∧ 0 ≤ a ∧ a ≤ 57344 := by
  have hall : ∀ b : BitVec 8, b.toNat < 124 → (b.extractLsb' 7 1 == 1#1) = false ∧ (b.extractLsb' 2 5).toNat ≤ 30
      ∧ (b.extractLsb' 0 2).toNat ≤ 3 := by decide +kernel
  obtain ⟨hs, he, hf⟩ := hall b h
  show ∃ a : ℝ, Ideal.ieee 5 2 b = (a : EReal) ∧ 0 ≤ a ∧ a ≤ 57344
  unfold Ideal.ieee
  simp only [show 5 + 2 = 7 from rfl, hs, Bool.false_eq_true, if_false, one_mul]
  generalize (b.extractLsb' 2 5).toNat = e at he ⊢
  generalize (b.extractLsb' 0 2).toNat = f at hf ⊢
  rw [if_neg (by norm_num; omega)]
  have hf' : (f : ℝ) ≤ 3 := by exact_mod_cast hf
  have hf0 : (0 : ℝ) ≤ f := Nat.cast_nonneg f
  split
  · refine ⟨_, rfl, by positivity, ?_⟩
    norm_num
    linarith
  · refine ⟨_, rfl, by positivity, ?_⟩
    have hz : (2 : ℝ) ^ ((e : ℤ) - (2 ^ (5 - 1) - 1 : ℤ) - (2 : ℕ)) ≤ (2 : ℝ) ^ (13 : ℤ) :=
      zpow_le_zpow_right₀ (by norm_num) (by norm_num; omega)
    have hz0 : (0 : ℝ) < (2 : ℝ) ^ ((e : ℤ) - (2 ^ (5 - 1) - 1 : ℤ) - (2 : ℕ)) := by positivity
    have hz2 : (2 : ℝ) ^ (13 : ℤ) = 8192 := by norm_num
    rw [hz2] at hz
    generalize (2 : ℝ) ^ ((e : ℤ) - (2 ^ (5 - 1) - 1 : ℤ) - (2 : ℕ)) = z at hz hz0 ⊢
    push_cast
    nlinarith

/-- The new first moment is a real of bounded magnitude. -/
theorem newM_real (a b c : ℝ) (ha : |a| ≤ 448) (hb : |b| ≤ (2 : ℝ) ^ (125 : ℤ)) (hc : |c| ≤ (2 : ℝ) ^ (64 : ℤ)) :
    ∃ r : ℝ, newM (c : EReal) (a : EReal) (b : EReal) = (r : EReal) ∧ |r| ≤ 448 * (2 : ℝ) ^ (125 : ℤ) := by
  unfold newM
  rw [Consts.beta1, Consts.rest1]
  refine ⟨a * (b * (7549747 / 8388608)) + 13421773 / 134217728 * c, by push_cast; rfl, ?_⟩
  have h1 : |a * b| ≤ 448 * (2 : ℝ) ^ (125 : ℤ) := by
    rw [abs_mul]
    exact mul_le_mul ha hb (abs_nonneg _) (by norm_num)
  have e : a * (b * (7549747 / 8388608)) + 13421773 / 134217728 * c = (a * b) * (7549747 / 8388608) + 13421773 / 134217728 * c := by ring
  rw [e]
  rw [abs_le] at h1 hc ⊢
  norm_num at h1 hc ⊢
  constructor <;> linarith [h1.1, h1.2, hc.1, hc.2]

/-- The new second moment is a bounded real, not negative. -/
theorem newV_real (a b c : ℝ) (ha0 : 0 ≤ a) (ha : a ≤ 57344) (hb0 : 0 ≤ b) (hb : b ≤ (2 : ℝ) ^ (125 : ℤ))
    (hc : |c| ≤ (2 : ℝ) ^ (64 : ℤ)) :
    ∃ r : ℝ, newV (c : EReal) (a : EReal) (b : EReal) = (r : EReal) ∧ 0 ≤ r ∧ r ≤ 57344 * (2 : ℝ) ^ (125 : ℤ) := by
  unfold newV
  rw [Consts.beta2, Consts.rest2]
  refine ⟨a * (b * (16760439 / 16777216)) + 8589935 / 8589934592 * (c * c), by push_cast; rfl,
    add_nonneg (mul_nonneg ha0 (mul_nonneg hb0 (by norm_num))) (mul_nonneg (by norm_num) (mul_self_nonneg c)), ?_⟩
  have h1 : a * b ≤ 57344 * (2 : ℝ) ^ (125 : ℤ) := mul_le_mul ha hb hb0 (by norm_num)
  have h2 : c * c ≤ (2 : ℝ) ^ (64 : ℤ) * (2 : ℝ) ^ (64 : ℤ) := by
    rw [← abs_mul_abs_self]
    exact mul_le_mul hc hc (abs_nonneg _) (by positivity)
  have e : a * (b * (16760439 / 16777216)) + 8589935 / 8589934592 * (c * c)
      = (a * b) * (16760439 / 16777216) + 8589935 / 8589934592 * (c * c) := by ring
  rw [e]
  norm_num at h1 h2 ⊢
  linarith

/-- The largest magnitude of a group of bounded reals. -/
theorem groupMax_real (f : Fin 128 → EReal) (M : ℝ) (h : ∀ r, ∃ a : ℝ, f r = (a : EReal) ∧ |a| ≤ M) :
    ∃ X : ℝ, groupMax f = (X : EReal) ∧ 0 ≤ X ∧ X ≤ M := by
  have habs : ∀ a : ℝ, FloatOps.absf (F := Ideal) (φ := .f32) ((a : ℝ) : EReal) = ((|a| : ℝ) : EReal) := by
    intro a
    show max ((a : ℝ) : EReal) (-((a : ℝ) : EReal)) = _
    rw [← EReal.coe_neg]
    exact (EReal.coe_strictMono.monotone.map_max (a := a) (b := -a)).symm
  refine real_of_between _ 0 M ?_ ?_
  · unfold groupMax
    rw [Finset.le_fold_max]
    right
    obtain ⟨a, ha, -⟩ := h 0
    refine ⟨0, Finset.mem_univ _, ?_⟩
    rw [ha, habs, EReal.coe_le_coe_iff]
    exact abs_nonneg a
  · unfold groupMax
    rw [Finset.fold_max_le]
    refine ⟨by rw [Consts.bot]; exact bot_le, fun r _ => ?_⟩
    obtain ⟨a, ha, hM⟩ := h r
    rw [ha, habs, EReal.coe_le_coe_iff]
    exact hM

/-- The two programs take one largest magnitude. -/
theorem groupMax_eq (f : Fin 128 → EReal) : Cert.ReferenceIdeal.Payloads.groupMax f = groupMax f := rfl

/-- The scales of a first moment's group agree. -/
theorem scalesM (f : Fin 128 → EReal) (h : ∀ r, ∃ a : ℝ, f r = (a : EReal) ∧ |a| ≤ 448 * (2 : ℝ) ^ (125 : ℤ)) :
    scaleOf (wordM f) = Cert.ReferenceIdeal.Payloads.scale (Cert.ReferenceIdeal.Payloads.magM f)
    ∧ invOf (wordM f) = Cert.ReferenceIdeal.Payloads.inv (Cert.ReferenceIdeal.Payloads.magM f) := by
  obtain ⟨X, hX, h0, h1⟩ := groupMax_real f _ h
  unfold wordM Cert.ReferenceIdeal.Payloads.magM
  rw [groupMax_eq, hX, Consts.invMaxM, ← EReal.coe_mul]
  refine Exponent.scales_agree _ (by positivity) ?_
  norm_num at h1 ⊢
  linarith

/-- The scales of a second moment's group agree. -/
theorem scalesV (f : Fin 128 → EReal) (h : ∀ r, ∃ a : ℝ, f r = (a : EReal) ∧ |a| ≤ 57344 * (2 : ℝ) ^ (125 : ℤ)) :
    scaleOf (wordV f) = Cert.ReferenceIdeal.Payloads.scale (Cert.ReferenceIdeal.Payloads.magV f)
    ∧ invOf (wordV f) = Cert.ReferenceIdeal.Payloads.inv (Cert.ReferenceIdeal.Payloads.magV f) := by
  obtain ⟨X, hX, h0, h1⟩ := groupMax_real f _ h
  unfold wordV Cert.ReferenceIdeal.Payloads.magV
  rw [groupMax_eq, hX, Consts.invMaxV, ← EReal.coe_mul]
  refine Exponent.scales_agree _ (by positivity) ?_
  norm_num at h1 ⊢
  linarith

end Cert.Bounds

end
-- ==== Proof.Change.lean ====
/- The parameter's change: the kernel's arrangement of the update equals the reference's, for real moments and a step of at least 1. -/
module

public import proofs.«01_k».proof.Proof.Consts
public import proofs.«01_k».proof.Proof.Scalars
public import proofs.«01_k».proof.Proof.RefPayloads

@[expose] public section

set_option maxRecDepth 16384

noncomputable section

namespace Cert.Change

open Idealize.ShloMosaic Cert.KernelIdeal.Scalars

/-- Two to the power t·log b / log 2 is b to the t. -/
theorem two_pow (t b : ℝ) (hb : 0 < b) : Real.rpow 2 (t * (Real.log b * (Real.log 2)⁻¹)) = Real.rpow b t := by
  show (2 : ℝ) ^ (t * (Real.log b * (Real.log 2)⁻¹)) = b ^ t
  rw [Real.rpow_def_of_pos (by norm_num), Real.rpow_def_of_pos hb]
  have : Real.log 2 ≠ 0 := (Real.log_pos (by norm_num)).ne'
  congr 1
  field_simp

/-- One bias correction as a real. -/
def corr (s : BitVec 32) (b : ℝ) : ℝ := 1 - Real.rpow b (s.toInt : ℝ)

/-- A bias correction lies above 0. -/
theorem corr_pos (s : BitVec 32) (b : ℝ) (hs : 1 ≤ s.toInt) (h0 : 0 < b) (h1 : b < 1) : 0 < corr s b := by
  have : b ^ (s.toInt : ℝ) < 1 := Real.rpow_lt_one h0.le h1 (by exact_mod_cast (by omega : 0 < s.toInt))
  unfold corr
  exact sub_pos.mpr this

/-- The kernel's first bias correction. -/
theorem bias1_eq (s : BitVec 32) : bias1 s = ((corr s (7549747 / 8388608) : ℝ) : EReal) := by
  unfold bias1
  rw [show (Named.named Cert.KernelIdeal.κ "log2_beta1" 0xBE1BA6B5#32 : Ideal .f32) = ((Real.log (7549747 / 8388608) * (Real.log 2)⁻¹ : ℝ) : EReal) from
    IdealRules.named_const.ideal_named_scalar _ _ _ _ rfl]
  rw [show (FloatOps.sitofp FTy.f32 s : Ideal .f32) = ((s.toInt : ℝ) : EReal) from rfl, ← EReal.coe_mul]
  rw [show ∀ r : ℝ, (FloatOps.exp2 (F := Ideal) (φ := .f32) ((r : ℝ) : EReal)) = ((Real.rpow 2 r : ℝ) : EReal) from Ideal.exp2_coe]
  rw [two_pow _ _ (by norm_num)]
  rfl

/-- The kernel's second bias correction. -/
theorem bias2_eq (s : BitVec 32) : bias2 s = ((corr s (16760439 / 16777216) : ℝ) : EReal) := by
  unfold bias2
  rw [show (Named.named Cert.KernelIdeal.κ "log2_beta2" 0xBABD3069#32 : Ideal .f32) = ((Real.log (16760439 / 16777216) * (Real.log 2)⁻¹ : ℝ) : EReal) from
    IdealRules.named_const.ideal_named_scalar _ _ _ _ rfl]
  rw [show (FloatOps.sitofp FTy.f32 s : Ideal .f32) = ((s.toInt : ℝ) : EReal) from rfl, ← EReal.coe_mul]
  rw [show ∀ r : ℝ, (FloatOps.exp2 (F := Ideal) (φ := .f32) ((r : ℝ) : EReal)) = ((Real.rpow 2 r : ℝ) : EReal) from Ideal.exp2_coe]
  rw [two_pow _ _ (by norm_num)]
  rfl

/-- The reference's first bias correction. -/
theorem ref_bias1 (s : BitVec 32) : Cert.ReferenceIdeal.Payloads.bias s 0x3F666666#32 = ((corr s (7549747 / 8388608) : ℝ) : EReal) := by
  unfold Cert.ReferenceIdeal.Payloads.bias
  rw [Consts.beta1]
  rfl

/-- The reference's second bias correction. -/
theorem ref_bias2 (s : BitVec 32) : Cert.ReferenceIdeal.Payloads.bias s 0x3F7FBE77#32 = ((corr s (16760439 / 16777216) : ℝ) : EReal) := by
  unfold Cert.ReferenceIdeal.Payloads.bias
  rw [Consts.beta2]
  rfl

/-- One over the reciprocal square root is the square root. -/
theorem root (b : ℝ) (hb : 0 ≤ b) : Ideal.div 1 (Ideal.rsqrt (b : EReal)) = ((Real.sqrt b : ℝ) : EReal) := by
  rcases hb.eq_or_lt with h | h
  · subst h
    rw [Ideal.rsqrt_coe]
    simp [Ideal.div]
  · rw [Ideal.rsqrt_coe, if_neg (not_lt.mpr hb), if_neg h.ne', Ideal.div_coe (inv_ne_zero (Real.sqrt_pos.mpr h).ne')]
    rw [one_div, inv_inv, one_mul]

/-- The kernel's factor on the first moment, as reals. -/
def slope (b c1 c2 : ℝ) : ℝ := 1 / (Real.sqrt b * (c1 * 1000 * (Real.sqrt c2)⁻¹) + c1 * (1 / 100000))

/-- The reference's adapted moment, as reals. -/
def adapted (a b c1 c2 : ℝ) : ℝ := a * (1 / c1) * (1 / (Real.sqrt (b * (1 / c2)) + 1 / 100000000))

/-- The reference's adapted moment, scaled by the rate, is the kernel's product. -/
theorem adapted_eq (a b c1 c2 : ℝ) (h1 : 0 < c1) (h2 : 0 < c2) (hb : 0 ≤ b) :
    -1 / 1000 * adapted a b c1 c2 = -(a * slope b c1 c2) := by
  unfold adapted slope
  rw [mul_one_div b c2, Real.sqrt_div hb]
  have hr := Real.sqrt_pos.mpr h2
  have hq := Real.sqrt_nonneg b
  generalize Real.sqrt c2 = r at hr ⊢
  generalize Real.sqrt b = q at hq ⊢
  have e1 : q / r + 1 / 100000000 ≠ 0 := by positivity
  have e2 : q * (c1 * 1000 * r⁻¹) + c1 * (1 / 100000) = c1 * 1000 * (q / r + 1 / 100000000) := by ring
  rw [e2]
  field_simp
  try ring

/-- The two changes agree. -/
theorem delta_eq (s : BitVec 32) (p : EReal) (a b : ℝ) (hs : 1 ≤ s.toInt) (hb : 0 ≤ b) :
    delta s p (a : EReal) (b : EReal) = Cert.ReferenceIdeal.Payloads.delta s p (a : EReal) (b : EReal) := by
  have h1 := corr_pos s (7549747 / 8388608) hs (by norm_num) (by norm_num)
  have h2 := corr_pos s (16760439 / 16777216) hs (by norm_num) (by norm_num)
  unfold delta Cert.ReferenceIdeal.Payloads.delta
  rw [bias1_eq, bias2_eq, ref_bias1, ref_bias2, root b hb, Consts.thousand]
  generalize corr s (7549747 / 8388608) = c1 at h1 ⊢
  generalize corr s (16760439 / 16777216) = c2 at h2 ⊢
  rw [show (Named.named Cert.KernelIdeal.κ "minus_lr_decay" 0xB727C5AC#32 : Ideal .f32) = ((-1 / 100000 : ℝ) : EReal) from
      IdealRules.named_const.ideal_named_scalar _ _ _ _ rfl,
    show (Named.named Cert.KernelIdeal.κ "eps_over_lr" 0x3727C5AC#32 : Ideal .f32) = ((1 / 100000 : ℝ) : EReal) from
      IdealRules.named_const.ideal_named_scalar _ _ _ _ rfl,
    show (Named.named Cert.ReferenceIdeal.κ "minus_lr" 0xBA83126F#32 : Ideal .f32) = ((-1 / 1000 : ℝ) : EReal) from
      IdealRules.named_const.ideal_named_scalar _ _ _ _ rfl,
    show (Named.named Cert.ReferenceIdeal.κ "weight_decay" 0x3C23D70A#32 : Ideal .f32) = ((1 / 100 : ℝ) : EReal) from
      IdealRules.named_const.ideal_named_scalar _ _ _ _ rfl,
    show (Named.named Cert.ReferenceIdeal.κ "eps" 0x322BCC77#32 : Ideal .f32) = ((1 / 100000000 : ℝ) : EReal) from
      IdealRules.named_const.ideal_named_scalar _ _ _ _ rfl]
  have hd : Real.sqrt b * (c1 * 1000 * (Real.sqrt c2)⁻¹) + c1 * (1 / 100000) ≠ 0 := by
    have := Real.sqrt_nonneg b
    have := Real.sqrt_pos.mpr h2
    positivity
  have hd2 : Real.sqrt (b * (1 / c2)) + 1 / 100000000 ≠ 0 := by
    have := Real.sqrt_nonneg (b * (1 / c2))
    positivity
  rw [Ideal.rsqrt_coe, if_neg (not_lt.mpr h2.le), if_neg h2.ne', ← EReal.coe_mul, ← EReal.coe_mul, ← EReal.coe_mul, ← EReal.coe_mul,
    ← EReal.coe_add, Ideal.div_coe hd, one_mul, ← EReal.coe_mul]
  rw [Ideal.div_coe h1.ne', Ideal.div_coe h2.ne', ← EReal.coe_mul, ← EReal.coe_mul, Ideal.sqrt_coe,
    if_neg (not_lt.mpr (mul_nonneg hb (one_div_pos.mpr h2).le)), ← EReal.coe_add, Ideal.div_coe hd2, ← EReal.coe_mul]
  have key := adapted_eq a b c1 c2 h1 h2 hb
  change ((-1 / 100000 : ℝ) : EReal) * p - ((a * slope b c1 c2 : ℝ) : EReal)
    = ((-1 / 1000 : ℝ) : EReal) * (((adapted a b c1 c2 : ℝ) : EReal) + ((1 / 100 : ℝ) : EReal) * p)
  generalize adapted a b c1 c2 = q at key ⊢
  generalize a * slope b c1 c2 = z at key ⊢
  induction p with
  | bot =>
    rw [EReal.coe_mul_bot_of_neg (by norm_num), EReal.coe_mul_bot_of_pos (by norm_num), EReal.add_bot,
      EReal.coe_mul_bot_of_neg (by norm_num), EReal.top_sub_coe]
  | top =>
    rw [EReal.coe_mul_top_of_neg (by norm_num), EReal.coe_mul_top_of_pos (by norm_num), EReal.coe_add_top,
      EReal.coe_mul_top_of_neg (by norm_num), EReal.bot_sub]
  | coe x =>
    rw [← EReal.coe_mul, ← EReal.coe_mul, ← EReal.coe_sub, ← EReal.coe_add, ← EReal.coe_mul, EReal.coe_eq_coe_iff]
    linear_combination -key

end Cert.Change

end
-- ==== Proof.Tile.lean ====
/- The kernel's vector operations on ONE 128 × 128 tile, read at an index: the scalar functions of Proof/Scalars.lean at the
   tile's elements. -/
module

public import proofs.«01_k».proof.Proof.Scalars

@[expose] public section

set_option maxRecDepth 16384

noncomputable section

namespace Cert.KernelIdeal.Tile

open Cert.KernelIdeal Cert.KernelIdeal.Gen Cert.KernelIdeal.Scalars Idealize.ShloMosaic Idealize.ShloMosaic.TcCoe
  Idealize.ShloMosaic.Tactic Idealize.SL.Sem

/-- The parameter update of a tile, as the kernel computes it. -/
def tDelta (s : Elt Ideal .i32) (p : FVec Ideal S128x128 .f32) (g : FVec Ideal S128x128 .bf16)
    (mc : FVec Ideal S128x128 .fp8e4m3) (ms : FVec Ideal S1x128 .f32) (vc : FVec Ideal S128x128 .fp8e5m2)
    (vs : FVec Ideal S1x128 .f32) : FVec Ideal S128x128 .f32 :=
  k0_pay11 (F := Ideal) (k0_pay7 (F := Ideal) ms g mc) (k0_pay9 p) (k0_pay10 (k0_pay3 s) (k0_pay4 s) vs g vc)

/-- The new scales of the first moment of a tile. -/
def tMScale (g : FVec Ideal S128x128 .bf16) (mc : FVec Ideal S128x128 .fp8e4m3) (ms : FVec Ideal S1x128 .f32) :
    FVec Ideal S1x128 .f32 :=
  k0_pay13 (F := Ideal) (k0_pay7 (F := Ideal) ms g mc)

/-- The new codes of the first moment of a tile. -/
def tMCodes (g : FVec Ideal S128x128 .bf16) (mc : FVec Ideal S128x128 .fp8e4m3) (ms : FVec Ideal S1x128 .f32) :
    FVec Ideal S128x128 .fp8e4m3 :=
  k0_pay19 (F := Ideal) (k0_pay7 (F := Ideal) ms g mc) (k0_pay14 (k0_pay7 (F := Ideal) ms g mc))

/-- The new scales of the second moment of a tile. -/
def tVScale (g : FVec Ideal S128x128 .bf16) (vc : FVec Ideal S128x128 .fp8e5m2) (vs : FVec Ideal S1x128 .f32) :
    FVec Ideal S1x128 .f32 :=
  k0_pay18 (F := Ideal) k0_pay15 (k0_pay16 (k0_pay8 (F := Ideal) vs g vc))

/-- The new codes of the second moment of a tile. -/
def tVCodes (g : FVec Ideal S128x128 .bf16) (vc : FVec Ideal S128x128 .fp8e5m2) (vs : FVec Ideal S1x128 .f32) :
    FVec Ideal S128x128 .fp8e5m2 :=
  k0_pay20 (F := Ideal) (k0_pay8 (F := Ideal) vs g vc) k0_pay15 (k0_pay16 (k0_pay8 (F := Ideal) vs g vc))

theorem pay7_at (ms : FVec Ideal S1x128 .f32) (g : FVec Ideal S128x128 .bf16) (mc : FVec Ideal S128x128 .fp8e4m3) (z : S128x128.Idx) :
    k0_pay7 (F := Ideal) ms g mc z = newM (g z) (mc z) (ms (ix2 0 (z 1))) := by
  pointwise [k0_pay7, k0_pay6, k0_pay5, newM]

theorem pay8_at (vs : FVec Ideal S1x128 .f32) (g : FVec Ideal S128x128 .bf16) (vc : FVec Ideal S128x128 .fp8e5m2) (z : S128x128.Idx) :
    k0_pay8 (F := Ideal) vs g vc z = newV (g z) (vc z) (vs (ix2 0 (z 1))) := by
  pointwise [k0_pay8, k0_pay6, k0_pay5, newV]

theorem tDelta_at (s : Elt Ideal .i32) (p : FVec Ideal S128x128 .f32) (g : FVec Ideal S128x128 .bf16)
    (mc : FVec Ideal S128x128 .fp8e4m3) (ms : FVec Ideal S1x128 .f32) (vc : FVec Ideal S128x128 .fp8e5m2)
    (vs : FVec Ideal S1x128 .f32) (z : S128x128.Idx) :
    tDelta s p g mc ms vc vs z
      = delta s (p z) (newM (g z) (mc z) (ms (ix2 0 (z 1)))) (newV (g z) (vc z) (vs (ix2 0 (z 1)))) := by
  pointwise [tDelta, k0_pay11, pay7_at, pay8_at, k0_pay9, k0_pay10, k0_pay3, k0_pay4, k0_pay2, k0_pay1, delta, bias1, bias2]

theorem pay13_at (M : FVec Ideal S128x128 .f32) (z : S1x128.Idx) :
    k0_pay13 (F := Ideal) M z = scaleOf (wordM fun r => M (ix2 r (z 1))) := by
  pointwise [k0_pay13, k0_pay12, scaleOf, wordM, scaleWord, expField, groupMax]

theorem pay19_at (M : FVec Ideal S128x128 .f32) (z : S128x128.Idx) :
    k0_pay19 (F := Ideal) M (k0_pay14 M) z = codeM (M z) (wordM fun r => M (ix2 r (z 1))) := by
  pointwise [k0_pay19, k0_pay14, k0_pay12, codeM, invOf, wordM, scaleWord, expField, groupMax]

theorem pay18_at (M : FVec Ideal S128x128 .f32) (z : S1x128.Idx) :
    k0_pay18 (F := Ideal) k0_pay15 (k0_pay16 M) z = scaleOf (wordV fun r => M (ix2 r (z 1))) := by
  pointwise [k0_pay18, k0_pay17, k0_pay15, k0_pay16, scaleOf, wordV, scaleWord, expField, groupMax]

theorem pay20_at (M : FVec Ideal S128x128 .f32) (z : S128x128.Idx) :
    k0_pay20 (F := Ideal) M k0_pay15 (k0_pay16 M) z = codeV (M z) (wordV fun r => M (ix2 r (z 1))) := by
  pointwise [k0_pay20, k0_pay17, k0_pay15, k0_pay16, codeV, invOf, wordV, scaleWord, expField, groupMax]

end Cert.KernelIdeal.Tile

end
-- ==== Proof.Block.lean ====
/- What ONE grid point's 1024 × 512 block of each result holds, as a function of the operand blocks: each element by the
   scalar functions, the scales per group of 128 rows; and a tile of such a block as the tile function of the operands' tiles. -/
module

public import proofs.«01_k».proof.Proof.Tile

@[expose] public section

set_option maxRecDepth 16384

noncomputable section

namespace Cert.KernelIdeal.Block

open Cert.KernelIdeal Cert.KernelIdeal.Gen Cert.KernelIdeal.Scalars Cert.KernelIdeal.Tile Idealize.ShloMosaic Idealize.ShloMosaic.TcCoe
  Idealize.ShloMosaic.Tactic Idealize.SL.Sem

/-- The scale entry of an element's group. -/
def scaleIx (y : S1024x512.Idx) : S8x512.Idx :=
  ix2 ⟨(y 0 : ℕ) / 128, by have := (y 0).isLt; simp at this; omega⟩ (y 1)

/-- The `r`-th element of a group. -/
def memberIx (j : S8x512.Idx) (r : Fin 128) : S1024x512.Idx :=
  ix2 ⟨128 * (j 0 : ℕ) + r, by have := (j 0).isLt; have := r.isLt; simp at *; omega⟩ (j 1)

variable (s : Elt Ideal .i32) (P : FVec Ideal S1024x512 .f32) (G : FVec Ideal S1024x512 .bf16)
  (MC : FVec Ideal S1024x512 .fp8e4m3) (MS : FVec Ideal S8x512 .f32) (VC : FVec Ideal S1024x512 .fp8e5m2)
  (VS : FVec Ideal S8x512 .f32)

/-- The block's new first moments. -/
def bM (y : S1024x512.Idx) : EReal := newM (G y) (MC y) (MS (scaleIx y))

/-- The block's new second moments. -/
def bV (y : S1024x512.Idx) : EReal := newV (G y) (VC y) (VS (scaleIx y))

/-- The block's parameter updates. -/
def bDelta : FVec Ideal S1024x512 .f32 := fun y => delta s (P y) (bM G MC MS y) (bV G VC VS y)

/-- The block's scale words of the first moment. -/
def bWordM (j : S8x512.Idx) : BitVec 32 := wordM fun r => bM G MC MS (memberIx j r)

/-- The block's scale words of the second moment. -/
def bWordV (j : S8x512.Idx) : BitVec 32 := wordV fun r => bV G VC VS (memberIx j r)

/-- The block's new codes of the first moment. -/
def bMCodes : FVec Ideal S1024x512 .fp8e4m3 := fun y => codeM (bM G MC MS y) (bWordM G MC MS (scaleIx y))

/-- The block's new scales of the first moment. -/
def bMScale : FVec Ideal S8x512 .f32 := fun j => scaleOf (bWordM G MC MS j)

/-- The block's new codes of the second moment. -/
def bVCodes : FVec Ideal S1024x512 .fp8e5m2 := fun y => codeV (bV G VC VS y) (bWordV G VC VS (scaleIx y))

/-- The block's new scales of the second moment. -/
def bVScale : FVec Ideal S8x512 .f32 := fun j => scaleOf (bWordV G VC VS j)

/-! ## Tiles of a block -/

variable {h k : ℕ} {off offS : Fin 2 → ℕ} (e : off = ![128 * h, 128 * k]) (eS : offS = ![h, 128 * k])
  (inb : ∀ a, off a + S128x128.size a ≤ S1024x512.size a) (inbS : ∀ a, offS a + S1x128.size a ≤ S8x512.size a)

include e eS in
/-- The scale row of a tile holds the scale entries of the tile's elements. -/
theorem ld_scale (X : FVec Ideal S8x512 .f32) (z : S128x128.Idx) :
    View.ld (Val := Elt Ideal) (e' := .f32) X (Rect.unit (s := S8x512) offS S1x128.size inbS) (ix2 0 (z 1))
      = X (scaleIx ((Rect.unit (s := S1024x512) off S128x128.size inb).emb z)) := by
  subst e; subst eS
  rw [View.ld_apply]
  refine congrArg X (funext fun a => Fin.ext ?_)
  have hz := (z 0).isLt
  simp at hz
  fin_cases a <;> simp [Rect.idx_unit_val, scaleIx] <;> omega

include e eS in
/-- A group's member, seen from its scale row in the tile and in the block. -/
theorem member_scale (j : S1x128.Idx) (r : Fin 128) :
    memberIx ((Rect.unit (s := S8x512) offS S1x128.size inbS).emb j) r
      = (Rect.unit (s := S1024x512) off S128x128.size inb).emb (ix2 r (j 1)) := by
  subst e; subst eS
  refine funext fun a => Fin.ext ?_
  have hz := (j 0).isLt
  simp at hz
  fin_cases a <;> simp [Rect.idx_unit_val, memberIx] <;> omega

include e in
/-- A group's member, seen from one of its elements in the tile and in the block. -/
theorem member_tile (z : S128x128.Idx) (r : Fin 128) :
    memberIx (scaleIx ((Rect.unit (s := S1024x512) off S128x128.size inb).emb z)) r
      = (Rect.unit (s := S1024x512) off S128x128.size inb).emb (ix2 r (z 1)) := by
  subst e
  refine funext fun a => Fin.ext ?_
  have hz := (z 0).isLt
  simp at hz
  fin_cases a <;> simp [Rect.idx_unit_val, memberIx, scaleIx] <;> omega

/-- The tile of a block at the offset. -/
abbrev tileR (off : Fin 2 → ℕ) (inb : ∀ a, off a + S128x128.size a ≤ S1024x512.size a) := Rect.unit (s := S1024x512) off S128x128.size inb

/-- The scale row at the offset. -/
abbrev rowR (offS : Fin 2 → ℕ) (inbS : ∀ a, offS a + S1x128.size a ≤ S8x512.size a) := Rect.unit (s := S8x512) offS S1x128.size inbS

include e eS in
/-- The tile's new first moments are the block's. -/
theorem m_tile (z : S128x128.Idx) :
    k0_pay7 (F := Ideal) (View.ld (Val := Elt Ideal) (e' := .f32) MS (rowR offS inbS))
        (View.ld (Val := Elt Ideal) (e' := .bf16) G (tileR off inb)) (View.ld (Val := Elt Ideal) (e' := .fp8e4m3) MC (tileR off inb)) z
      = bM G MC MS ((tileR off inb).emb z) :=
  (pay7_at _ _ _ z).trans (by rw [ld_scale e eS inb inbS MS z]; rfl)

include e eS in
/-- The tile's new second moments are the block's. -/
theorem v_tile (z : S128x128.Idx) :
    k0_pay8 (F := Ideal) (View.ld (Val := Elt Ideal) (e' := .f32) VS (rowR offS inbS))
        (View.ld (Val := Elt Ideal) (e' := .bf16) G (tileR off inb)) (View.ld (Val := Elt Ideal) (e' := .fp8e5m2) VC (tileR off inb)) z
      = bV G VC VS ((tileR off inb).emb z) :=
  (pay8_at _ _ _ z).trans (by rw [ld_scale e eS inb inbS VS z]; rfl)

include e eS in
/-- The tile's parameter updates are the block's. -/
theorem delta_tile (z : S128x128.Idx) :
    tDelta s (View.ld (Val := Elt Ideal) (e' := .f32) P (tileR off inb)) (View.ld (Val := Elt Ideal) (e' := .bf16) G (tileR off inb))
        (View.ld (Val := Elt Ideal) (e' := .fp8e4m3) MC (tileR off inb)) (View.ld (Val := Elt Ideal) (e' := .f32) MS (rowR offS inbS))
        (View.ld (Val := Elt Ideal) (e' := .fp8e5m2) VC (tileR off inb)) (View.ld (Val := Elt Ideal) (e' := .f32) VS (rowR offS inbS)) z
      = bDelta s P G MC MS VC VS ((tileR off inb).emb z) :=
  (tDelta_at _ _ _ _ _ _ _ z).trans (by
    rw [ld_scale e eS inb inbS MS z, ld_scale e eS inb inbS VS z]; rfl)

include e eS in
/-- The tile's codes of the first moment are the block's. -/
theorem mCodes_tile (z : S128x128.Idx) :
    tMCodes (View.ld (Val := Elt Ideal) (e' := .bf16) G (tileR off inb))
        (View.ld (Val := Elt Ideal) (e' := .fp8e4m3) MC (tileR off inb)) (View.ld (Val := Elt Ideal) (e' := .f32) MS (rowR offS inbS)) z
      = bMCodes G MC MS ((tileR off inb).emb z) :=
  (pay19_at _ z).trans (by simp only [m_tile G MC MS e eS inb inbS, bMCodes, bWordM, member_tile e inb])

include e eS in
/-- The tile's codes of the second moment are the block's. -/
theorem vCodes_tile (z : S128x128.Idx) :
    tVCodes (View.ld (Val := Elt Ideal) (e' := .bf16) G (tileR off inb))
        (View.ld (Val := Elt Ideal) (e' := .fp8e5m2) VC (tileR off inb)) (View.ld (Val := Elt Ideal) (e' := .f32) VS (rowR offS inbS)) z
      = bVCodes G VC VS ((tileR off inb).emb z) :=
  (pay20_at _ z).trans (by simp only [v_tile G VC VS e eS inb inbS, bVCodes, bWordV, member_tile e inb])

include e eS in
/-- The tile's scales of the first moment are the block's. -/
theorem mScale_tile (j : S1x128.Idx) :
    tMScale (View.ld (Val := Elt Ideal) (e' := .bf16) G (tileR off inb))
        (View.ld (Val := Elt Ideal) (e' := .fp8e4m3) MC (tileR off inb)) (View.ld (Val := Elt Ideal) (e' := .f32) MS (rowR offS inbS)) j
      = bMScale G MC MS ((rowR offS inbS).emb j) :=
  (pay13_at _ j).trans (by simp only [m_tile G MC MS e eS inb inbS, bMScale, bWordM, member_scale e eS inb inbS])

include e eS in
/-- The tile's scales of the second moment are the block's. -/
theorem vScale_tile (j : S1x128.Idx) :
    tVScale (View.ld (Val := Elt Ideal) (e' := .bf16) G (tileR off inb))
        (View.ld (Val := Elt Ideal) (e' := .fp8e5m2) VC (tileR off inb)) (View.ld (Val := Elt Ideal) (e' := .f32) VS (rowR offS inbS)) j
      = bVScale G VC VS ((rowR offS inbS).emb j) :=
  (pay18_at _ j).trans (by simp only [v_tile G VC VS e eS inb inbS, bVScale, bWordV, member_scale e eS inb inbS])

end Cert.KernelIdeal.Block

end
-- ==== Proof.Arrays.lean ====
/- What the kernel's five result ARRAYS hold, as functions of the argument arrays: each element by the scalar functions of
   Proof/Scalars.lean, the scales per group of 128 rows of one column. -/
module

public import proofs.«01_k».proof.Proof.Block

@[expose] public section

set_option maxRecDepth 16384

noncomputable section

namespace Cert.KernelIdeal.Arrays

open Cert.KernelIdeal Cert.KernelIdeal.Gen Cert.KernelIdeal.Scalars Cert.KernelIdeal.Block Idealize.ShloMosaic Idealize.ShloMosaic.TcCoe
  Idealize.ShloMosaic.Tactic Idealize.SL.Sem

/-- The scale entry of an element's group. -/
def scaleAt (y : S23552x2048.Idx) : S184x2048.Idx :=
  ix2 ⟨(y 0 : ℕ) / 128, by have := (y 0).isLt; simp at this; omega⟩ (y 1)

/-- The `r`-th element of a group. -/
def memberAt (j : S184x2048.Idx) (r : Fin 128) : S23552x2048.Idx :=
  ix2 ⟨128 * (j 0 : ℕ) + r, by have := (j 0).isLt; have := r.isLt; simp at *; omega⟩ (j 1)

variable (s : Elt Ideal .i32) (P : FVec Ideal S23552x2048 .f32) (G : FVec Ideal S23552x2048 .bf16)
  (MC : FVec Ideal S23552x2048 .fp8e4m3) (MS : FVec Ideal S184x2048 .f32) (VC : FVec Ideal S23552x2048 .fp8e5m2)
  (VS : FVec Ideal S184x2048 .f32)

/-- The new first moments. -/
def aM (y : S23552x2048.Idx) : EReal := newM (G y) (MC y) (MS (scaleAt y))

/-- The new second moments. -/
def aV (y : S23552x2048.Idx) : EReal := newV (G y) (VC y) (VS (scaleAt y))

/-- The parameter updates. -/
def aDelta : FVec Ideal S23552x2048 .f32 := fun y => delta s (P y) (aM G MC MS y) (aV G VC VS y)

/-- The scale words of the first moment. -/
def aWordM (j : S184x2048.Idx) : BitVec 32 := wordM fun r => aM G MC MS (memberAt j r)

/-- The scale words of the second moment. -/
def aWordV (j : S184x2048.Idx) : BitVec 32 := wordV fun r => aV G VC VS (memberAt j r)

/-- The new codes of the first moment. -/
def aMCodes : FVec Ideal S23552x2048 .fp8e4m3 := fun y => codeM (aM G MC MS y) (aWordM G MC MS (scaleAt y))

/-- The new scales of the first moment. -/
def aMScale : FVec Ideal S184x2048 .f32 := fun j => scaleOf (aWordM G MC MS j)

/-- The new codes of the second moment. -/
def aVCodes : FVec Ideal S23552x2048 .fp8e5m2 := fun y => codeV (aV G VC VS y) (aWordV G VC VS (scaleAt y))

/-- The new scales of the second moment. -/
def aVScale : FVec Ideal S184x2048 .f32 := fun j => scaleOf (aWordV G VC VS j)

/-! ## Blocks of the arrays -/

/-- Element `y` of the block at block row `a`, block column `b`. -/
def at2 (a : Fin 23) (b : Fin 4) (y : S1024x512.Idx) : S23552x2048.Idx :=
  ix2 ⟨1024 * (a : ℕ) + y 0, by have := (y 0).isLt; have := a.isLt; simp at *; omega⟩
    ⟨512 * (b : ℕ) + y 1, by have := (y 1).isLt; have := b.isLt; simp at *; omega⟩

/-- Scale entry `j` of that block. -/
def atS (a : Fin 23) (b : Fin 4) (j : S8x512.Idx) : S184x2048.Idx :=
  ix2 ⟨8 * (a : ℕ) + j 0, by have := (j 0).isLt; have := a.isLt; simp at *; omega⟩
    ⟨512 * (b : ℕ) + j 1, by have := (j 1).isLt; have := b.isLt; simp at *; omega⟩

variable (a : Fin 23) (b : Fin 4)

theorem scaleAt_at2 (y : S1024x512.Idx) : scaleAt (at2 a b y) = atS a b (scaleIx y) := by
  refine funext fun x => Fin.ext ?_
  fin_cases x <;> simp [scaleAt, at2, atS, scaleIx]
  omega

theorem memberAt_atS (j : S8x512.Idx) (r : Fin 128) : memberAt (atS a b j) r = at2 a b (memberIx j r) := by
  refine funext fun x => Fin.ext ?_
  fin_cases x <;> simp [memberAt, at2, atS, memberIx]
  omega

/-- A block of the arrays, operand by operand, gives the blocks of the results. -/
theorem bM_at (y : S1024x512.Idx) :
    bM (fun z => G (at2 a b z)) (fun z => MC (at2 a b z)) (fun j => MS (atS a b j)) y = aM G MC MS (at2 a b y) := by
  simp only [bM, aM, scaleAt_at2]

theorem bV_at (y : S1024x512.Idx) :
    bV (fun z => G (at2 a b z)) (fun z => VC (at2 a b z)) (fun j => VS (atS a b j)) y = aV G VC VS (at2 a b y) := by
  simp only [bV, aV, scaleAt_at2]

theorem bDelta_at (y : S1024x512.Idx) :
    bDelta s (fun z => P (at2 a b z)) (fun z => G (at2 a b z)) (fun z => MC (at2 a b z)) (fun j => MS (atS a b j))
      (fun z => VC (at2 a b z)) (fun j => VS (atS a b j)) y = aDelta s P G MC MS VC VS (at2 a b y) := by
  simp only [bDelta, aDelta, bM_at, bV_at]

theorem bMCodes_at (y : S1024x512.Idx) :
    bMCodes (fun z => G (at2 a b z)) (fun z => MC (at2 a b z)) (fun j => MS (atS a b j)) y = aMCodes G MC MS (at2 a b y) := by
  simp only [bMCodes, aMCodes, bWordM, aWordM, bM_at, scaleAt_at2, memberAt_atS]

theorem bMScale_at (j : S8x512.Idx) :
    bMScale (fun z => G (at2 a b z)) (fun z => MC (at2 a b z)) (fun j => MS (atS a b j)) j = aMScale G MC MS (atS a b j) := by
  simp only [bMScale, aMScale, bWordM, aWordM, bM_at, memberAt_atS]

theorem bVCodes_at (y : S1024x512.Idx) :
    bVCodes (fun z => G (at2 a b z)) (fun z => VC (at2 a b z)) (fun j => VS (atS a b j)) y = aVCodes G VC VS (at2 a b y) := by
  simp only [bVCodes, aVCodes, bWordV, aWordV, bV_at, scaleAt_at2, memberAt_atS]

theorem bVScale_at (j : S8x512.Idx) :
    bVScale (fun z => G (at2 a b z)) (fun z => VC (at2 a b z)) (fun j => VS (atS a b j)) j = aVScale G VC VS (atS a b j) := by
  simp only [bVScale, aVScale, bWordV, aWordV, bV_at, memberAt_atS]

end Cert.KernelIdeal.Arrays

end
-- ==== Proof.RefPoint.lean ====
/- What the reference kernel's body leaves in its five outputs: the payloads of its whole-array stores, at the contents of its
   operands. -/
module

public import proofs.«01_k».proof.Proof.Gen.ReferenceIdeal.Value
public import Idealize.ShloMosaic.Lib.Pipeline.ValueKit

@[expose] public section

set_option maxRecDepth 16384

noncomputable section

namespace Cert.ReferenceIdeal.Point

open Cert.ReferenceIdeal Cert.ReferenceIdeal.Gen Idealize.ShloMosaic Idealize.ShloMosaic.TcCoe
  Idealize.ShloMosaic.Tactic Idealize.SL.Sem

variable (c : Dev nD) (arg0 : Memref sig .tc .smem S1 .i32) (harg0 : arg0.IsWhole) (arg1 : Memref sig .tc .vmem S23552x2048 .f32) (harg1 : arg1.IsWhole) (arg2 : Memref sig .tc .vmem S23552x2048 .bf16) (harg2 : arg2.IsWhole) (arg3 : Memref sig .tc .vmem S23552x2048 .fp8e4m3) (harg3 : arg3.IsWhole) (arg4 : Memref sig .tc .vmem S184x2048 .f32) (harg4 : arg4.IsWhole) (arg5 : Memref sig .tc .vmem S23552x2048 .fp8e5m2) (harg5 : arg5.IsWhole) (arg6 : Memref sig .tc .vmem S184x2048 .f32) (harg6 : arg6.IsWhole) (arg7 : Memref sig .tc .vmem S23552x2048 .f32) (harg7 : arg7.IsWhole) (arg8 : Memref sig .tc .vmem S23552x2048 .fp8e4m3) (harg8 : arg8.IsWhole) (arg9 : Memref sig .tc .vmem S184x2048 .f32) (harg9 : arg9.IsWhole) (arg10 : Memref sig .tc .vmem S23552x2048 .fp8e5m2) (harg10 : arg10.IsWhole) (arg11 : Memref sig .tc .vmem S184x2048 .f32) (harg11 : arg11.IsWhole)
  (x0 : Vec Ideal S1 .i32) (x1 : Vec Ideal S23552x2048 .f32) (x2 : Vec Ideal S23552x2048 .bf16) (x3 : Vec Ideal S23552x2048 .fp8e4m3) (x4 : Vec Ideal S184x2048 .f32) (x5 : Vec Ideal S23552x2048 .fp8e5m2) (x6 : Vec Ideal S184x2048 .f32)

/-- The parameter updates that the body leaves. -/
theorem out_delta : out0_A_7 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6
    = k0_pay15 (F := Ideal) (k0_pay2 (F := Ideal) x3 x4 x2) (k0_pay3 (F := Ideal) x5 x6 x2) (x0 (ix1 0)) x1 := by
  unfold out0_A_7 kernelRun0_A
  dsimp only
  sl_unfold_words
  simp (disch := decide) only [View.read_writes_junk_eq_canon, View.canon_cons_unit_lit', View.ld_unit_lit',
    View.readAt_eq_ld, Memref.IsWhole.read_unread]
  rw [View.ld_apply]
  refine congrArg (fun s => k0_pay15 (F := Ideal) (k0_pay2 x3 x4 x2) (k0_pay3 x5 x6 x2) (x0 s) x1) (funext fun a => Fin.ext ?_)
  fin_cases a
  rw [Rect.idx_unit_val]
  simp

/-- The codes of the first moment that the body leaves. -/
theorem out_mCodes : out0_A_8 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6
    = k0_pay8 (F := Ideal) (k0_pay2 (F := Ideal) x3 x4 x2) (k0_pay4 (F := Ideal) x3 x4 x2) (k0_pay5 (F := Ideal) x3 x4 x2) (Named.named κ "ln2" 0x3F317218#32) := by
  unfold out0_A_8 kernelRun0_A
  dsimp only
  sl_unfold_words
  simp (disch := decide) only [View.read_writes_junk_eq_canon, View.canon_cons_unit_lit', View.ld_unit_lit',
    View.readAt_eq_ld, Memref.IsWhole.read_unread]

/-- The scales of the first moment that the body leaves. -/
theorem out_mScale : out0_A_9 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6
    = k0_pay7 (F := Ideal) (k0_pay4 (F := Ideal) x3 x4 x2) (k0_pay5 (F := Ideal) x3 x4 x2) (Named.named κ "ln2" 0x3F317218#32) := by
  unfold out0_A_9 kernelRun0_A
  dsimp only
  sl_unfold_words
  simp (disch := decide) only [View.read_writes_junk_eq_canon, View.canon_cons_unit_lit', View.ld_unit_lit',
    View.readAt_eq_ld, Memref.IsWhole.read_unread]

/-- The codes of the second moment that the body leaves. -/
theorem out_vCodes : out0_A_10 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6
    = k0_pay14 (F := Ideal) (k0_pay3 (F := Ideal) x5 x6 x2) (k0_pay9 (k0_pay3 (F := Ideal) x5 x6 x2)) (k0_pay10 (k0_pay3 (F := Ideal) x5 x6 x2)) k0_pay11 := by
  unfold out0_A_10 kernelRun0_A
  dsimp only
  sl_unfold_words
  simp (disch := decide) only [View.read_writes_junk_eq_canon, View.canon_cons_unit_lit', View.ld_unit_lit',
    View.readAt_eq_ld, Memref.IsWhole.read_unread]

/-- The scales of the second moment that the body leaves. -/
theorem out_vScale : out0_A_11 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6
    = k0_pay13 (F := Ideal) (k0_pay9 (k0_pay3 (F := Ideal) x5 x6 x2)) (k0_pay10 (k0_pay3 (F := Ideal) x5 x6 x2)) k0_pay11 := by
  unfold out0_A_11 kernelRun0_A
  dsimp only
  sl_unfold_words
  simp (disch := decide) only [View.read_writes_junk_eq_canon, View.canon_cons_unit_lit', View.ld_unit_lit',
    View.readAt_eq_ld, Memref.IsWhole.read_unread]

end Cert.ReferenceIdeal.Point

end
-- ==== Proof.RefArrays.lean ====
/- What the reference's five result arrays hold after the run, as functions of the argument arrays. -/
module

public import proofs.«01_k».proof.Proof.RefPoint
public import proofs.«01_k».proof.Proof.RefPayloads

@[expose] public section

set_option maxRecDepth 16384

noncomputable section

namespace Cert.ReferenceIdeal.After

open Cert.ReferenceIdeal Cert.ReferenceIdeal.Gen Cert.ReferenceIdeal.Payloads Idealize.ShloMosaic Idealize.ShloMosaic.TcCoe
  Idealize.ShloMosaic.Tactic Idealize.SL.Sem

variable (s : BitVec 32) (P : FVec Ideal S23552x2048 .f32) (G : FVec Ideal S23552x2048 .bf16)
  (MC : FVec Ideal S23552x2048 .fp8e4m3) (MS : FVec Ideal S184x2048 .f32) (VC : FVec Ideal S23552x2048 .fp8e5m2)
  (VS : FVec Ideal S184x2048 .f32)

/-- The new first moments. -/
def rM (y : S23552x2048.Idx) : EReal := refM (G y) (MC y) (MS (scaleAt y))

/-- The new second moments. -/
def rV (y : S23552x2048.Idx) : EReal := refV (G y) (VC y) (VS (scaleAt y))

/-- The scaled largest magnitudes of the first moment's groups. -/
def rMagM (j : S184x2048.Idx) : EReal := magM fun r => rM G MC MS (memberAt j r)

/-- The scaled largest magnitudes of the second moment's groups. -/
def rMagV (j : S184x2048.Idx) : EReal := magV fun r => rV G VC VS (memberAt j r)

/-- The parameter updates. -/
def rDelta : FVec Ideal S23552x2048 .f32 := fun y => delta s (P y) (rM G MC MS y) (rV G VC VS y)

/-- The new codes of the first moment. -/
def rMCodes : FVec Ideal S23552x2048 .fp8e4m3 := fun y => codeM (rM G MC MS y) (rMagM G MC MS (scaleAt y))

/-- The new scales of the first moment. -/
def rMScale : FVec Ideal S184x2048 .f32 := fun j => scale (rMagM G MC MS j)

/-- The new codes of the second moment. -/
def rVCodes : FVec Ideal S23552x2048 .fp8e5m2 := fun y => codeV (rV G VC VS y) (rMagV G VC VS (scaleAt y))

/-- The new scales of the second moment. -/
def rVScale : FVec Ideal S184x2048 .f32 := fun j => scale (rMagV G VC VS j)

theorem delta_at (y : S23552x2048.Idx) : k0_pay15 (F := Ideal) (k0_pay2 MC MS G) (k0_pay3 VC VS G) s P y = rDelta s P G MC MS VC VS y := by
  rw [pay15_at, pay2_at, pay3_at]
  rfl

/-- The scaled magnitudes of the first moment's groups, from the arguments. -/
theorem magM_at (j : S184x2048.Idx) : scaled 0x3B124925#32 (k0_pay2 (F := Ideal) MC MS G) j = rMagM G MC MS j := by
  rw [scaled_at]
  simp only [pay2_at]
  rfl

/-- The scaled magnitudes of the second moment's groups, from the arguments. -/
theorem magV_at (j : S184x2048.Idx) : scaled 0x37924925#32 (k0_pay3 (F := Ideal) VC VS G) j = rMagV G VC VS j := by
  rw [scaled_at]
  simp only [pay3_at]
  rfl

theorem mCodes_at (y : S23552x2048.Idx) : k0_pay8 (F := Ideal) (k0_pay2 MC MS G) (k0_pay4 MC MS G) (k0_pay5 MC MS G)
    (Named.named κ "ln2" 0x3F317218#32) y = rMCodes G MC MS y := by
  rw [pay4_eq, pay5_eq, pay8_at, expoM_at, magM_at, pay2_at]
  rfl

theorem mScale_at (j : S184x2048.Idx) : k0_pay7 (F := Ideal) (k0_pay4 MC MS G) (k0_pay5 MC MS G)
    (Named.named κ "ln2" 0x3F317218#32) j = rMScale G MC MS j := by
  rw [pay4_eq, pay5_eq, pay7_at, expoM_at, magM_at]
  rfl

theorem vCodes_at (y : S23552x2048.Idx) : k0_pay14 (F := Ideal) (k0_pay3 VC VS G) (k0_pay9 (k0_pay3 VC VS G))
    (k0_pay10 (k0_pay3 VC VS G)) k0_pay11 y = rVCodes G VC VS y := by
  rw [pay9_eq, pay10_eq, pay14_at, expoV_at, magV_at, pay3_at]
  rfl

theorem vScale_at (j : S184x2048.Idx) : k0_pay13 (F := Ideal) (k0_pay9 (k0_pay3 VC VS G))
    (k0_pay10 (k0_pay3 VC VS G)) k0_pay11 j = rVScale G VC VS j := by
  rw [pay9_eq, pay10_eq, pay13_at, expoV_at, magV_at]
  rfl

end Cert.ReferenceIdeal.After

end
-- ==== Proof.Agree.lean ====
/- The kernel's five result arrays equal the reference's, for arguments in the stated ranges. -/
module

public import proofs.«01_k».proof.Proof.Bounds
public import proofs.«01_k».proof.Proof.Change
public import proofs.«01_k».proof.Proof.Arrays
public import proofs.«01_k».proof.Proof.RefArrays

@[expose] public section

set_option maxRecDepth 16384

noncomputable section

namespace Cert.Agree

open Idealize.ShloMosaic Cert.KernelIdeal Cert.KernelIdeal.Arrays Cert.ReferenceIdeal.After

variable (s : BitVec 32) (P : FVec Ideal S23552x2048 .f32) (G : FVec Ideal S23552x2048 .bf16)
  (MC : FVec Ideal S23552x2048 .fp8e4m3) (MS : FVec Ideal S184x2048 .f32) (VC : FVec Ideal S23552x2048 .fp8e5m2)
  (VS : FVec Ideal S184x2048 .f32)

/-- One new first moment, in either order of the products. -/
theorem newM_eq (g mc ms : EReal) : Scalars.newM g mc ms = Cert.ReferenceIdeal.Payloads.refM g mc ms := by
  unfold Scalars.newM Cert.ReferenceIdeal.Payloads.refM
  rw [← mul_assoc, mul_comm (mc * ms)]

/-- One new second moment, in either order of the products. -/
theorem newV_eq (g vc vs : EReal) : Scalars.newV g vc vs = Cert.ReferenceIdeal.Payloads.refV g vc vs := by
  unfold Scalars.newV Cert.ReferenceIdeal.Payloads.refV
  rw [← mul_assoc, mul_comm (vc * vs)]

/-- The new first moments agree. -/
theorem moments1 : rM G MC MS = aM G MC MS := funext fun _ => (newM_eq _ _ _).symm

/-- The new second moments agree. -/
theorem moments2 : rV G VC VS = aV G VC VS := funext fun _ => (newV_eq _ _ _).symm

variable (hG : ∀ y, ∃ a : ℝ, G y = (a : EReal) ∧ |a| ≤ (2 : ℝ) ^ (64 : ℤ))
  (hMC : ∀ y, ∃ a : ℝ, MC y = (a : EReal) ∧ |a| ≤ 448)
  (hMS : ∀ y, ∃ a : ℝ, MS y = (a : EReal) ∧ |a| ≤ (2 : ℝ) ^ (125 : ℤ))
  (hVC : ∀ y, ∃ a : ℝ, VC y = (a : EReal) ∧ 0 ≤ a ∧ a ≤ 57344)
  (hVS : ∀ y, ∃ a : ℝ, VS y = (a : EReal) ∧ 0 ≤ a ∧ a ≤ (2 : ℝ) ^ (125 : ℤ))

include hG hMC hMS in
/-- Each new first moment is a bounded real. -/
theorem real1 (y : S23552x2048.Idx) : ∃ r : ℝ, aM G MC MS y = (r : EReal) ∧ |r| ≤ 448 * (2 : ℝ) ^ (125 : ℤ) := by
  obtain ⟨c, hc, hc'⟩ := hG y
  obtain ⟨a, ha, ha'⟩ := hMC y
  obtain ⟨b, hb, hb'⟩ := hMS (scaleAt y)
  unfold aM
  rw [hc, ha, hb]
  exact Bounds.newM_real a b c ha' hb' hc'

include hG hVC hVS in
/-- Each new second moment is a bounded real, not negative. -/
theorem real2 (y : S23552x2048.Idx) : ∃ r : ℝ, aV G VC VS y = (r : EReal) ∧ 0 ≤ r ∧ r ≤ 57344 * (2 : ℝ) ^ (125 : ℤ) := by
  obtain ⟨c, hc, hc'⟩ := hG y
  obtain ⟨a, ha, ha0, ha'⟩ := hVC y
  obtain ⟨b, hb, hb0, hb'⟩ := hVS (scaleAt y)
  unfold aV
  rw [hc, ha, hb]
  exact Bounds.newV_real a b c ha0 ha' hb0 hb' hc'

include hG hMC hMS in
/-- The scales of the first moment agree. -/
theorem scales1 (j : S184x2048.Idx) : Scalars.scaleOf (aWordM G MC MS j) = Cert.ReferenceIdeal.Payloads.scale (rMagM G MC MS j)
    ∧ Scalars.invOf (aWordM G MC MS j) = Cert.ReferenceIdeal.Payloads.inv (rMagM G MC MS j) := by
  unfold aWordM rMagM
  rw [moments1]
  exact Bounds.scalesM (fun r => aM G MC MS (memberAt j r)) fun r => real1 G MC MS hG hMC hMS _

include hG hVC hVS in
/-- The scales of the second moment agree. -/
theorem scales2 (j : S184x2048.Idx) : Scalars.scaleOf (aWordV G VC VS j) = Cert.ReferenceIdeal.Payloads.scale (rMagV G VC VS j)
    ∧ Scalars.invOf (aWordV G VC VS j) = Cert.ReferenceIdeal.Payloads.inv (rMagV G VC VS j) := by
  unfold aWordV rMagV
  rw [moments2]
  refine Bounds.scalesV (fun r => aV G VC VS (memberAt j r)) fun r => ?_
  obtain ⟨a, ha, h0, h1⟩ := real2 G VC VS hG hVC hVS (memberAt j r)
  exact ⟨a, ha, by rw [abs_of_nonneg h0]; exact h1⟩

include hG hMC hMS hVC hVS in
/-- The parameter updates agree. -/
theorem delta (hs : 1 ≤ s.toInt) : rDelta s P G MC MS VC VS = aDelta s P G MC MS VC VS := by
  funext y
  unfold rDelta aDelta
  rw [moments1, moments2]
  obtain ⟨a, ha, -⟩ := real1 G MC MS hG hMC hMS y
  obtain ⟨b, hb, h0, -⟩ := real2 G VC VS hG hVC hVS y
  rw [ha, hb]
  exact (Change.delta_eq s (P y) a b hs h0).symm

include hG hMC hMS in
/-- The new codes of the first moment agree. -/
theorem mCodes : rMCodes G MC MS = aMCodes G MC MS := by
  funext y
  unfold rMCodes aMCodes Cert.ReferenceIdeal.Payloads.codeM Scalars.codeM
  rw [moments1, (scales1 G MC MS hG hMC hMS (scaleAt y)).2]
  rfl

include hG hMC hMS in
/-- The new scales of the first moment agree. -/
theorem mScale : rMScale G MC MS = aMScale G MC MS :=
  funext fun j => (scales1 G MC MS hG hMC hMS j).1.symm

include hG hVC hVS in
/-- The new codes of the second moment agree. -/
theorem vCodes : rVCodes G VC VS = aVCodes G VC VS := by
  funext y
  unfold rVCodes aVCodes Cert.ReferenceIdeal.Payloads.codeV Scalars.codeV
  rw [moments2, (scales2 G VC VS hG hVC hVS (scaleAt y)).2]
  rfl

include hG hVC hVS in
/-- The new scales of the second moment agree. -/
theorem vScale : rVScale G VC VS = aVScale G VC VS :=
  funext fun j => (scales2 G VC VS hG hVC hVS j).1.symm

end Cert.Agree

end
-- ==== Proof.Ranges.lean ====
/- What the stated ranges say of each element of the arguments. -/
module

public import proofs.«01_k».proof.Defs
public import proofs.«01_k».proof.Proof.Bounds
public import proofs.«01_k».proof.Proof.Gen.Pre_ranges

@[expose] public section

set_option maxRecDepth 16384

noncomputable section

namespace Cert.Ranges

open Idealize.ShloMosaic Idealize.ShloMosaic.TcCoe Idealize.ShloMosaic.Tactic Idealize.SL.Sem Cert.Pre_ranges

/-- The word of a true proposition is 1 only when it holds. -/
theorem of_word {p : Prop} [Decidable p] (h : BitVec.ofBool (decide p) = 1#1) : p := by
  by_contra hp
  rw [decide_eq_false hp] at h
  exact absurd h (by decide)

/-- A conjunction of two words is 1 only when both are. -/
theorem of_both : ∀ a b : BitVec 1, IntOp.andi a b = 1#1 → a = 1#1 ∧ b = 1#1 := by decide

variable [hPre_ranges : Cert.Pre_ranges.Facts] (P : FVec Ideal S23552x2048 .f32) (G : FVec Ideal S23552x2048 .bf16) (MC : IVec S23552x2048 8)
  (MS : FVec Ideal S184x2048 .f32) (VC : IVec S23552x2048 8) (VS : FVec Ideal S184x2048 .f32) (T : IVec S_ 32)

/-- Each gradient is a real of magnitude at most 2 to the 64. -/
theorem grad (h : (Cert.Pre_ranges.fn (F := Ideal) P G MC MS VC VS T).1 = fun _ => 1#1) (y : S23552x2048.Idx) :
    ∃ a : ℝ, G y = (a : EReal) ∧ |a| ≤ (2 : ℝ) ^ (64 : ℤ) := by
  have := congrFun h y
  pointwise [Cert.Pre_ranges.fn, Cert.Pre_ranges.fn_part1] at this
  have h2 := of_word this
  rw [Consts.gradMax] at h2
  exact Bounds.real_of_abs _ _ h2

/-- Each word of the first moment is a number. -/
theorem wordsM (h : (Cert.Pre_ranges.fn (F := Ideal) P G MC MS VC VS T).2.1 = fun _ => 1#1) (y : S23552x2048.Idx) :
    MC y ≠ 127#8 ∧ MC y ≠ 255#8 := by
  have := congrFun h y
  pointwise [Cert.Pre_ranges.fn, Cert.Pre_ranges.fn_part1] at this
  obtain ⟨h1, h2⟩ := of_both _ _ this
  exact ⟨fun e => by rw [e] at h1; exact absurd h1 (by decide), fun e => by rw [e] at h2; exact absurd h2 (by decide)⟩

/-- Each scale of the first moment is a real of magnitude at most 2 to the 125. -/
theorem scalesM (h : (Cert.Pre_ranges.fn (F := Ideal) P G MC MS VC VS T).2.2.1 = fun _ => 1#1) (y : S184x2048.Idx) :
    ∃ a : ℝ, MS y = (a : EReal) ∧ |a| ≤ (2 : ℝ) ^ (125 : ℤ) := by
  have := congrFun h y
  pointwise [Cert.Pre_ranges.fn, Cert.Pre_ranges.fn_part1] at this
  have h2 := of_word this
  rw [Consts.scaleMax] at h2
  exact Bounds.real_of_abs _ _ h2

/-- Each word of the second moment is a number without sign. -/
theorem wordsV (h : (Cert.Pre_ranges.fn (F := Ideal) P G MC MS VC VS T).2.2.2.1 = fun _ => 1#1) (y : S23552x2048.Idx) :
    (VC y).toNat < 124 := by
  have := congrFun h y
  pointwise [Cert.Pre_ranges.fn, Cert.Pre_ranges.fn_part1] at this
  have all : ∀ w : BitVec 8, IntOp.cmpi CmpIPredicate.ult w 124#8 = 1#1 → w.toNat < 124 := by decide +kernel
  exact all _ this

/-- Each scale of the second moment is a real from 0 to 2 to the 125. -/
theorem scalesV (h : (Cert.Pre_ranges.fn (F := Ideal) P G MC MS VC VS T).2.2.2.2.1 = fun _ => 1#1) (y : S184x2048.Idx) :
    ∃ a : ℝ, VS y = (a : EReal) ∧ 0 ≤ a ∧ a ≤ (2 : ℝ) ^ (125 : ℤ) := by
  have := congrFun h y
  pointwise [Cert.Pre_ranges.fn, Cert.Pre_ranges.fn_part1] at this
  obtain ⟨h1, h2⟩ := of_both _ _ this
  have h3 := of_word h2
  rw [Consts.scaleMax] at h3
  exact Bounds.real_of_between _ 0 _ (of_word h1) h3

/-- The step is at least 1. -/
theorem step (h : (Cert.Pre_ranges.fn (F := Ideal) P G MC MS VC VS T).2.2.2.2.2 = fun _ => 1#1) : 1 ≤ (T ix0).toInt := by
  have := congrFun h ix0
  pointwise [Cert.Pre_ranges.fn, Cert.Pre_ranges.fn_part1] at this
  have h2 : BitVec.ofBool ((1#32).sle (T ix0)) = 1#1 := this
  rw [BitVec.sle_eq_decide] at h2
  exact of_word h2

end Cert.Ranges

end
-- ==== Proof.Trip.lean ====
/- What ONE trip of the kernel's loop stores (eight tiles of every result, one under another), and what all trips together
   store: tiles of the blocks of Proof/Block.lean. -/
module

public import proofs.«01_k».proof.Proof.Gen.KernelIdeal.Loops
public import proofs.«01_k».proof.Proof.Block
public import Idealize.ShloMosaic.Lib.Pipeline.ReadBack

@[expose] public section

set_option maxRecDepth 16384

noncomputable section

namespace Cert.KernelIdeal.Trip

open Cert.KernelIdeal Cert.KernelIdeal.Gen Cert.KernelIdeal.Block Cert.KernelIdeal.Tile Idealize.ShloMosaic
  Idealize.ShloMosaic.TcCoe Idealize.ShloMosaic.Tactic Idealize.SL.Sem

variable (𝒱 : Variants) (c : Dev nD) (bd : Option 𝒱.V) (i : grid0.Coords) (arg2 : Memref sig .tc .smem S1 .i32) (harg2 : arg2.IsWhole) (arg3 : Memref sig .tc .vmem S1024x512 .f32) (harg3 : arg3.IsWhole) (arg4 : Memref sig .tc .vmem S1024x512 .bf16) (harg4 : arg4.IsWhole) (arg5 : Memref sig .tc .vmem S1024x512 .fp8e4m3) (harg5 : arg5.IsWhole) (arg6 : Memref sig .tc .vmem S8x512 .f32) (harg6 : arg6.IsWhole) (arg7 : Memref sig .tc .vmem S1024x512 .fp8e5m2) (harg7 : arg7.IsWhole) (arg8 : Memref sig .tc .vmem S8x512 .f32) (harg8 : arg8.IsWhole) (arg9 : Memref sig .tc .vmem S1024x512 .f32) (harg9 : arg9.IsWhole) (arg10 : Memref sig .tc .vmem S1024x512 .fp8e4m3) (harg10 : arg10.IsWhole) (arg11 : Memref sig .tc .vmem S8x512 .f32) (harg11 : arg11.IsWhole) (arg12 : Memref sig .tc .vmem S1024x512 .fp8e5m2) (harg12 : arg12.IsWhole) (arg13 : Memref sig .tc .vmem S8x512 .f32) (harg13 : arg13.IsWhole) (v0 : Elt Ideal .i32) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (k : Fin k0_t1_loop.trips)

/-- A trip's stores of the parameter updates are tiles of the block. -/
theorem trip_delta :
    View.PiecesOf (bDelta v0 (View.read (Elt Ideal) arg3.view X_arg3) (View.read (Elt Ideal) arg4.view X_arg4) (View.read (Elt Ideal) arg5.view X_arg5) (View.read (Elt Ideal) arg6.view X_arg6) (View.read (Elt Ideal) arg7.view X_arg7) (View.read (Elt Ideal) arg8.view X_arg8))
      (trip_k0_t1 (F := Ideal) 𝒱 c bd i arg2 harg2 arg3 harg3 arg4 harg4 arg5 harg5 arg6 harg6 arg7 harg7 arg8 harg8 arg9 harg9 arg10 harg10 arg11 harg11 arg12 harg12 arg13 harg13 v0 X_arg3 X_arg4 X_arg5 X_arg6 X_arg7 X_arg8 k).1 := by
  unfold trip_k0_t1
  dsimp only
  refine ⟨?_, ?_, ?_, ?_, ?_, ?_, ?_, ?_, trivial⟩
  · exact fun z => delta_tile v0 (View.read (Elt Ideal) arg3.view X_arg3) (View.read (Elt Ideal) arg4.view X_arg4) (View.read (Elt Ideal) arg5.view X_arg5) (View.read (Elt Ideal) arg6.view X_arg6) (View.read (Elt Ideal) arg7.view X_arg7) (View.read (Elt Ideal) arg8.view X_arg8) (h := 7) (k0_off16_eq k) (k0_off15_eq k) (k0_off16_inb k) (k0_off15_inb k) z
  · exact fun z => delta_tile v0 (View.read (Elt Ideal) arg3.view X_arg3) (View.read (Elt Ideal) arg4.view X_arg4) (View.read (Elt Ideal) arg5.view X_arg5) (View.read (Elt Ideal) arg6.view X_arg6) (View.read (Elt Ideal) arg7.view X_arg7) (View.read (Elt Ideal) arg8.view X_arg8) (h := 6) (k0_off14_eq k) (k0_off13_eq k) (k0_off14_inb k) (k0_off13_inb k) z
  · exact fun z => delta_tile v0 (View.read (Elt Ideal) arg3.view X_arg3) (View.read (Elt Ideal) arg4.view X_arg4) (View.read (Elt Ideal) arg5.view X_arg5) (View.read (Elt Ideal) arg6.view X_arg6) (View.read (Elt Ideal) arg7.view X_arg7) (View.read (Elt Ideal) arg8.view X_arg8) (h := 5) (k0_off12_eq k) (k0_off11_eq k) (k0_off12_inb k) (k0_off11_inb k) z
  · exact fun z => delta_tile v0 (View.read (Elt Ideal) arg3.view X_arg3) (View.read (Elt Ideal) arg4.view X_arg4) (View.read (Elt Ideal) arg5.view X_arg5) (View.read (Elt Ideal) arg6.view X_arg6) (View.read (Elt Ideal) arg7.view X_arg7) (View.read (Elt Ideal) arg8.view X_arg8) (h := 4) (k0_off10_eq k) (k0_off9_eq k) (k0_off10_inb k) (k0_off9_inb k) z
  · exact fun z => delta_tile v0 (View.read (Elt Ideal) arg3.view X_arg3) (View.read (Elt Ideal) arg4.view X_arg4) (View.read (Elt Ideal) arg5.view X_arg5) (View.read (Elt Ideal) arg6.view X_arg6) (View.read (Elt Ideal) arg7.view X_arg7) (View.read (Elt Ideal) arg8.view X_arg8) (h := 3) (k0_off8_eq k) (k0_off7_eq k) (k0_off8_inb k) (k0_off7_inb k) z
  · exact fun z => delta_tile v0 (View.read (Elt Ideal) arg3.view X_arg3) (View.read (Elt Ideal) arg4.view X_arg4) (View.read (Elt Ideal) arg5.view X_arg5) (View.read (Elt Ideal) arg6.view X_arg6) (View.read (Elt Ideal) arg7.view X_arg7) (View.read (Elt Ideal) arg8.view X_arg8) (h := 2) (k0_off6_eq k) (k0_off5_eq k) (k0_off6_inb k) (k0_off5_inb k) z
  · exact fun z => delta_tile v0 (View.read (Elt Ideal) arg3.view X_arg3) (View.read (Elt Ideal) arg4.view X_arg4) (View.read (Elt Ideal) arg5.view X_arg5) (View.read (Elt Ideal) arg6.view X_arg6) (View.read (Elt Ideal) arg7.view X_arg7) (View.read (Elt Ideal) arg8.view X_arg8) (h := 1) (k0_off4_eq k) (k0_off3_eq k) (k0_off4_inb k) (k0_off3_inb k) z
  · exact fun z => delta_tile v0 (View.read (Elt Ideal) arg3.view X_arg3) (View.read (Elt Ideal) arg4.view X_arg4) (View.read (Elt Ideal) arg5.view X_arg5) (View.read (Elt Ideal) arg6.view X_arg6) (View.read (Elt Ideal) arg7.view X_arg7) (View.read (Elt Ideal) arg8.view X_arg8) (h := 0) (k0_off2_eq k) (k0_off1_eq k) (k0_off2_inb k) (k0_off1_inb k) z

/-- A trip's stores of the codes of the first moment are tiles of the block. -/
theorem trip_mCodes :
    View.PiecesOf (bMCodes (View.read (Elt Ideal) arg4.view X_arg4) (View.read (Elt Ideal) arg5.view X_arg5) (View.read (Elt Ideal) arg6.view X_arg6))
      (trip_k0_t1 (F := Ideal) 𝒱 c bd i arg2 harg2 arg3 harg3 arg4 harg4 arg5 harg5 arg6 harg6 arg7 harg7 arg8 harg8 arg9 harg9 arg10 harg10 arg11 harg11 arg12 harg12 arg13 harg13 v0 X_arg3 X_arg4 X_arg5 X_arg6 X_arg7 X_arg8 k).2.1 := by
  unfold trip_k0_t1
  dsimp only
  refine ⟨?_, ?_, ?_, ?_, ?_, ?_, ?_, ?_, trivial⟩
  · exact fun z => mCodes_tile (View.read (Elt Ideal) arg4.view X_arg4) (View.read (Elt Ideal) arg5.view X_arg5) (View.read (Elt Ideal) arg6.view X_arg6) (h := 7) (k0_off16_eq k) (k0_off15_eq k) (k0_off16_inb k) (k0_off15_inb k) z
  · exact fun z => mCodes_tile (View.read (Elt Ideal) arg4.view X_arg4) (View.read (Elt Ideal) arg5.view X_arg5) (View.read (Elt Ideal) arg6.view X_arg6) (h := 6) (k0_off14_eq k) (k0_off13_eq k) (k0_off14_inb k) (k0_off13_inb k) z
  · exact fun z => mCodes_tile (View.read (Elt Ideal) arg4.view X_arg4) (View.read (Elt Ideal) arg5.view X_arg5) (View.read (Elt Ideal) arg6.view X_arg6) (h := 5) (k0_off12_eq k) (k0_off11_eq k) (k0_off12_inb k) (k0_off11_inb k) z
  · exact fun z => mCodes_tile (View.read (Elt Ideal) arg4.view X_arg4) (View.read (Elt Ideal) arg5.view X_arg5) (View.read (Elt Ideal) arg6.view X_arg6) (h := 4) (k0_off10_eq k) (k0_off9_eq k) (k0_off10_inb k) (k0_off9_inb k) z
  · exact fun z => mCodes_tile (View.read (Elt Ideal) arg4.view X_arg4) (View.read (Elt Ideal) arg5.view X_arg5) (View.read (Elt Ideal) arg6.view X_arg6) (h := 3) (k0_off8_eq k) (k0_off7_eq k) (k0_off8_inb k) (k0_off7_inb k) z
  · exact fun z => mCodes_tile (View.read (Elt Ideal) arg4.view X_arg4) (View.read (Elt Ideal) arg5.view X_arg5) (View.read (Elt Ideal) arg6.view X_arg6) (h := 2) (k0_off6_eq k) (k0_off5_eq k) (k0_off6_inb k) (k0_off5_inb k) z
  · exact fun z => mCodes_tile (View.read (Elt Ideal) arg4.view X_arg4) (View.read (Elt Ideal) arg5.view X_arg5) (View.read (Elt Ideal) arg6.view X_arg6) (h := 1) (k0_off4_eq k) (k0_off3_eq k) (k0_off4_inb k) (k0_off3_inb k) z
  · exact fun z => mCodes_tile (View.read (Elt Ideal) arg4.view X_arg4) (View.read (Elt Ideal) arg5.view X_arg5) (View.read (Elt Ideal) arg6.view X_arg6) (h := 0) (k0_off2_eq k) (k0_off1_eq k) (k0_off2_inb k) (k0_off1_inb k) z

/-- A trip's stores of the scales of the first moment are tiles of the block. -/
theorem trip_mScale :
    View.PiecesOf (bMScale (View.read (Elt Ideal) arg4.view X_arg4) (View.read (Elt Ideal) arg5.view X_arg5) (View.read (Elt Ideal) arg6.view X_arg6))
      (trip_k0_t1 (F := Ideal) 𝒱 c bd i arg2 harg2 arg3 harg3 arg4 harg4 arg5 harg5 arg6 harg6 arg7 harg7 arg8 harg8 arg9 harg9 arg10 harg10 arg11 harg11 arg12 harg12 arg13 harg13 v0 X_arg3 X_arg4 X_arg5 X_arg6 X_arg7 X_arg8 k).2.2.1 := by
  unfold trip_k0_t1
  dsimp only
  refine ⟨?_, ?_, ?_, ?_, ?_, ?_, ?_, ?_, trivial⟩
  · exact fun z => mScale_tile (View.read (Elt Ideal) arg4.view X_arg4) (View.read (Elt Ideal) arg5.view X_arg5) (View.read (Elt Ideal) arg6.view X_arg6) (h := 7) (k0_off16_eq k) (k0_off15_eq k) (k0_off16_inb k) (k0_off15_inb k) z
  · exact fun z => mScale_tile (View.read (Elt Ideal) arg4.view X_arg4) (View.read (Elt Ideal) arg5.view X_arg5) (View.read (Elt Ideal) arg6.view X_arg6) (h := 6) (k0_off14_eq k) (k0_off13_eq k) (k0_off14_inb k) (k0_off13_inb k) z
  · exact fun z => mScale_tile (View.read (Elt Ideal) arg4.view X_arg4) (View.read (Elt Ideal) arg5.view X_arg5) (View.read (Elt Ideal) arg6.view X_arg6) (h := 5) (k0_off12_eq k) (k0_off11_eq k) (k0_off12_inb k) (k0_off11_inb k) z
  · exact fun z => mScale_tile (View.read (Elt Ideal) arg4.view X_arg4) (View.read (Elt Ideal) arg5.view X_arg5) (View.read (Elt Ideal) arg6.view X_arg6) (h := 4) (k0_off10_eq k) (k0_off9_eq k) (k0_off10_inb k) (k0_off9_inb k) z
  · exact fun z => mScale_tile (View.read (Elt Ideal) arg4.view X_arg4) (View.read (Elt Ideal) arg5.view X_arg5) (View.read (Elt Ideal) arg6.view X_arg6) (h := 3) (k0_off8_eq k) (k0_off7_eq k) (k0_off8_inb k) (k0_off7_inb k) z
  · exact fun z => mScale_tile (View.read (Elt Ideal) arg4.view X_arg4) (View.read (Elt Ideal) arg5.view X_arg5) (View.read (Elt Ideal) arg6.view X_arg6) (h := 2) (k0_off6_eq k) (k0_off5_eq k) (k0_off6_inb k) (k0_off5_inb k) z
  · exact fun z => mScale_tile (View.read (Elt Ideal) arg4.view X_arg4) (View.read (Elt Ideal) arg5.view X_arg5) (View.read (Elt Ideal) arg6.view X_arg6) (h := 1) (k0_off4_eq k) (k0_off3_eq k) (k0_off4_inb k) (k0_off3_inb k) z
  · exact fun z => mScale_tile (View.read (Elt Ideal) arg4.view X_arg4) (View.read (Elt Ideal) arg5.view X_arg5) (View.read (Elt Ideal) arg6.view X_arg6) (h := 0) (k0_off2_eq k) (k0_off1_eq k) (k0_off2_inb k) (k0_off1_inb k) z

/-- A trip's stores of the codes of the second moment are tiles of the block. -/
theorem trip_vCodes :
    View.PiecesOf (bVCodes (View.read (Elt Ideal) arg4.view X_arg4) (View.read (Elt Ideal) arg7.view X_arg7) (View.read (Elt Ideal) arg8.view X_arg8))
      (trip_k0_t1 (F := Ideal) 𝒱 c bd i arg2 harg2 arg3 harg3 arg4 harg4 arg5 harg5 arg6 harg6 arg7 harg7 arg8 harg8 arg9 harg9 arg10 harg10 arg11 harg11 arg12 harg12 arg13 harg13 v0 X_arg3 X_arg4 X_arg5 X_arg6 X_arg7 X_arg8 k).2.2.2.1 := by
  unfold trip_k0_t1
  dsimp only
  refine ⟨?_, ?_, ?_, ?_, ?_, ?_, ?_, ?_, trivial⟩
  · exact fun z => vCodes_tile (View.read (Elt Ideal) arg4.view X_arg4) (View.read (Elt Ideal) arg7.view X_arg7) (View.read (Elt Ideal) arg8.view X_arg8) (h := 7) (k0_off16_eq k) (k0_off15_eq k) (k0_off16_inb k) (k0_off15_inb k) z
  · exact fun z => vCodes_tile (View.read (Elt Ideal) arg4.view X_arg4) (View.read (Elt Ideal) arg7.view X_arg7) (View.read (Elt Ideal) arg8.view X_arg8) (h := 6) (k0_off14_eq k) (k0_off13_eq k) (k0_off14_inb k) (k0_off13_inb k) z
  · exact fun z => vCodes_tile (View.read (Elt Ideal) arg4.view X_arg4) (View.read (Elt Ideal) arg7.view X_arg7) (View.read (Elt Ideal) arg8.view X_arg8) (h := 5) (k0_off12_eq k) (k0_off11_eq k) (k0_off12_inb k) (k0_off11_inb k) z
  · exact fun z => vCodes_tile (View.read (Elt Ideal) arg4.view X_arg4) (View.read (Elt Ideal) arg7.view X_arg7) (View.read (Elt Ideal) arg8.view X_arg8) (h := 4) (k0_off10_eq k) (k0_off9_eq k) (k0_off10_inb k) (k0_off9_inb k) z
  · exact fun z => vCodes_tile (View.read (Elt Ideal) arg4.view X_arg4) (View.read (Elt Ideal) arg7.view X_arg7) (View.read (Elt Ideal) arg8.view X_arg8) (h := 3) (k0_off8_eq k) (k0_off7_eq k) (k0_off8_inb k) (k0_off7_inb k) z
  · exact fun z => vCodes_tile (View.read (Elt Ideal) arg4.view X_arg4) (View.read (Elt Ideal) arg7.view X_arg7) (View.read (Elt Ideal) arg8.view X_arg8) (h := 2) (k0_off6_eq k) (k0_off5_eq k) (k0_off6_inb k) (k0_off5_inb k) z
  · exact fun z => vCodes_tile (View.read (Elt Ideal) arg4.view X_arg4) (View.read (Elt Ideal) arg7.view X_arg7) (View.read (Elt Ideal) arg8.view X_arg8) (h := 1) (k0_off4_eq k) (k0_off3_eq k) (k0_off4_inb k) (k0_off3_inb k) z
  · exact fun z => vCodes_tile (View.read (Elt Ideal) arg4.view X_arg4) (View.read (Elt Ideal) arg7.view X_arg7) (View.read (Elt Ideal) arg8.view X_arg8) (h := 0) (k0_off2_eq k) (k0_off1_eq k) (k0_off2_inb k) (k0_off1_inb k) z

/-- A trip's stores of the scales of the second moment are tiles of the block. -/
theorem trip_vScale :
    View.PiecesOf (bVScale (View.read (Elt Ideal) arg4.view X_arg4) (View.read (Elt Ideal) arg7.view X_arg7) (View.read (Elt Ideal) arg8.view X_arg8))
      (trip_k0_t1 (F := Ideal) 𝒱 c bd i arg2 harg2 arg3 harg3 arg4 harg4 arg5 harg5 arg6 harg6 arg7 harg7 arg8 harg8 arg9 harg9 arg10 harg10 arg11 harg11 arg12 harg12 arg13 harg13 v0 X_arg3 X_arg4 X_arg5 X_arg6 X_arg7 X_arg8 k).2.2.2.2.1 := by
  unfold trip_k0_t1
  dsimp only
  refine ⟨?_, ?_, ?_, ?_, ?_, ?_, ?_, ?_, trivial⟩
  · exact fun z => vScale_tile (View.read (Elt Ideal) arg4.view X_arg4) (View.read (Elt Ideal) arg7.view X_arg7) (View.read (Elt Ideal) arg8.view X_arg8) (h := 7) (k0_off16_eq k) (k0_off15_eq k) (k0_off16_inb k) (k0_off15_inb k) z
  · exact fun z => vScale_tile (View.read (Elt Ideal) arg4.view X_arg4) (View.read (Elt Ideal) arg7.view X_arg7) (View.read (Elt Ideal) arg8.view X_arg8) (h := 6) (k0_off14_eq k) (k0_off13_eq k) (k0_off14_inb k) (k0_off13_inb k) z
  · exact fun z => vScale_tile (View.read (Elt Ideal) arg4.view X_arg4) (View.read (Elt Ideal) arg7.view X_arg7) (View.read (Elt Ideal) arg8.view X_arg8) (h := 5) (k0_off12_eq k) (k0_off11_eq k) (k0_off12_inb k) (k0_off11_inb k) z
  · exact fun z => vScale_tile (View.read (Elt Ideal) arg4.view X_arg4) (View.read (Elt Ideal) arg7.view X_arg7) (View.read (Elt Ideal) arg8.view X_arg8) (h := 4) (k0_off10_eq k) (k0_off9_eq k) (k0_off10_inb k) (k0_off9_inb k) z
  · exact fun z => vScale_tile (View.read (Elt Ideal) arg4.view X_arg4) (View.read (Elt Ideal) arg7.view X_arg7) (View.read (Elt Ideal) arg8.view X_arg8) (h := 3) (k0_off8_eq k) (k0_off7_eq k) (k0_off8_inb k) (k0_off7_inb k) z
  · exact fun z => vScale_tile (View.read (Elt Ideal) arg4.view X_arg4) (View.read (Elt Ideal) arg7.view X_arg7) (View.read (Elt Ideal) arg8.view X_arg8) (h := 2) (k0_off6_eq k) (k0_off5_eq k) (k0_off6_inb k) (k0_off5_inb k) z
  · exact fun z => vScale_tile (View.read (Elt Ideal) arg4.view X_arg4) (View.read (Elt Ideal) arg7.view X_arg7) (View.read (Elt Ideal) arg8.view X_arg8) (h := 1) (k0_off4_eq k) (k0_off3_eq k) (k0_off4_inb k) (k0_off3_inb k) z
  · exact fun z => vScale_tile (View.read (Elt Ideal) arg4.view X_arg4) (View.read (Elt Ideal) arg7.view X_arg7) (View.read (Elt Ideal) arg8.view X_arg8) (h := 0) (k0_off2_eq k) (k0_off1_eq k) (k0_off2_inb k) (k0_off1_inb k) z

/-- Blocks of `G` in front of blocks of `G` are blocks of `G`. -/
theorem piecesOf_append {s : Shape} {e : EltTy} {G : s.Idx → Elt Ideal e} :
    ∀ {L L' : List (View.Piece (Elt Ideal) s e)}, View.PiecesOf G L → View.PiecesOf G L' → View.PiecesOf G (L ++ L')
  | [], _, _, h' => h'
  | _ :: _, _, h, h' => ⟨h.1, piecesOf_append h.2 h'⟩

/-- The stores of the first `n` trips are tiles of the blocks, in each of the five results. -/
theorem trips_all : ∀ n ≤ k0_t1_loop.trips,
    View.PiecesOf (bDelta v0 (View.read (Elt Ideal) arg3.view X_arg3) (View.read (Elt Ideal) arg4.view X_arg4) (View.read (Elt Ideal) arg5.view X_arg5) (View.read (Elt Ideal) arg6.view X_arg6) (View.read (Elt Ideal) arg7.view X_arg7) (View.read (Elt Ideal) arg8.view X_arg8))
      (pb_k0_t1 (F := Ideal) 𝒱 c bd i arg2 harg2 arg3 harg3 arg4 harg4 arg5 harg5 arg6 harg6 arg7 harg7 arg8 harg8 arg9 harg9 arg10 harg10 arg11 harg11 arg12 harg12 arg13 harg13 v0 X_arg3 X_arg4 X_arg5 X_arg6 X_arg7 X_arg8 n).1
    ∧ View.PiecesOf (bMCodes (View.read (Elt Ideal) arg4.view X_arg4) (View.read (Elt Ideal) arg5.view X_arg5) (View.read (Elt Ideal) arg6.view X_arg6))
      (pb_k0_t1 (F := Ideal) 𝒱 c bd i arg2 harg2 arg3 harg3 arg4 harg4 arg5 harg5 arg6 harg6 arg7 harg7 arg8 harg8 arg9 harg9 arg10 harg10 arg11 harg11 arg12 harg12 arg13 harg13 v0 X_arg3 X_arg4 X_arg5 X_arg6 X_arg7 X_arg8 n).2.1
    ∧ View.PiecesOf (bMScale (View.read (Elt Ideal) arg4.view X_arg4) (View.read (Elt Ideal) arg5.view X_arg5) (View.read (Elt Ideal) arg6.view X_arg6))
      (pb_k0_t1 (F := Ideal) 𝒱 c bd i arg2 harg2 arg3 harg3 arg4 harg4 arg5 harg5 arg6 harg6 arg7 harg7 arg8 harg8 arg9 harg9 arg10 harg10 arg11 harg11 arg12 harg12 arg13 harg13 v0 X_arg3 X_arg4 X_arg5 X_arg6 X_arg7 X_arg8 n).2.2.1
    ∧ View.PiecesOf (bVCodes (View.read (Elt Ideal) arg4.view X_arg4) (View.read (Elt Ideal) arg7.view X_arg7) (View.read (Elt Ideal) arg8.view X_arg8))
      (pb_k0_t1 (F := Ideal) 𝒱 c bd i arg2 harg2 arg3 harg3 arg4 harg4 arg5 harg5 arg6 harg6 arg7 harg7 arg8 harg8 arg9 harg9 arg10 harg10 arg11 harg11 arg12 harg12 arg13 harg13 v0 X_arg3 X_arg4 X_arg5 X_arg6 X_arg7 X_arg8 n).2.2.2.1
    ∧ View.PiecesOf (bVScale (View.read (Elt Ideal) arg4.view X_arg4) (View.read (Elt Ideal) arg7.view X_arg7) (View.read (Elt Ideal) arg8.view X_arg8))
      (pb_k0_t1 (F := Ideal) 𝒱 c bd i arg2 harg2 arg3 harg3 arg4 harg4 arg5 harg5 arg6 harg6 arg7 harg7 arg8 harg8 arg9 harg9 arg10 harg10 arg11 harg11 arg12 harg12 arg13 harg13 v0 X_arg3 X_arg4 X_arg5 X_arg6 X_arg7 X_arg8 n).2.2.2.2
  | 0, _ => ⟨trivial, trivial, trivial, trivial, trivial⟩
  | n + 1, hn => by
    have ih := trips_all n (by omega)
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 v0 X_arg3 X_arg4 X_arg5 X_arg6 X_arg7 X_arg8 ⟨n, hn⟩
    rw [show (⟨n, hn⟩ : Fin k0_t1_loop.trips).val = n from rfl] at e
    rw [e]
    exact ⟨piecesOf_append (trip_delta 𝒱 c bd i arg2 harg2 arg3 harg3 arg4 harg4 arg5 harg5 arg6 harg6 arg7 harg7 arg8 harg8 arg9 harg9 arg10 harg10 arg11 harg11 arg12 harg12 arg13 harg13 v0 X_arg3 X_arg4 X_arg5 X_arg6 X_arg7 X_arg8 ⟨n, hn⟩) ih.1,
      piecesOf_append (trip_mCodes 𝒱 c bd i arg2 harg2 arg3 harg3 arg4 harg4 arg5 harg5 arg6 harg6 arg7 harg7 arg8 harg8 arg9 harg9 arg10 harg10 arg11 harg11 arg12 harg12 arg13 harg13 v0 X_arg3 X_arg4 X_arg5 X_arg6 X_arg7 X_arg8 ⟨n, hn⟩) ih.2.1,
      piecesOf_append (trip_mScale 𝒱 c bd i arg2 harg2 arg3 harg3 arg4 harg4 arg5 harg5 arg6 harg6 arg7 harg7 arg8 harg8 arg9 harg9 arg10 harg10 arg11 harg11 arg12 harg12 arg13 harg13 v0 X_arg3 X_arg4 X_arg5 X_arg6 X_arg7 X_arg8 ⟨n, hn⟩) ih.2.2.1,
      piecesOf_append (trip_vCodes 𝒱 c bd i arg2 harg2 arg3 harg3 arg4 harg4 arg5 harg5 arg6 harg6 arg7 harg7 arg8 harg8 arg9 harg9 arg10 harg10 arg11 harg11 arg12 harg12 arg13 harg13 v0 X_arg3 X_arg4 X_arg5 X_arg6 X_arg7 X_arg8 ⟨n, hn⟩) ih.2.2.2.1,
      piecesOf_append (trip_vScale 𝒱 c bd i arg2 harg2 arg3 harg3 arg4 harg4 arg5 harg5 arg6 harg6 arg7 harg7 arg8 harg8 arg9 harg9 arg10 harg10 arg11 harg11 arg12 harg12 arg13 harg13 v0 X_arg3 X_arg4 X_arg5 X_arg6 X_arg7 X_arg8 ⟨n, hn⟩) ih.2.2.2.2⟩

end Cert.KernelIdeal.Trip

end
-- ==== Proof.Point.lean ====
/- What one grid point leaves in each result's staging buffer: the block functions of Proof/Block.lean at the operands' blocks. -/
module

public import proofs.«01_k».proof.Proof.Gen.KernelIdeal.Frame
public import proofs.«01_k».proof.Proof.Trip

@[expose] public section

set_option maxRecDepth 16384

noncomputable section

namespace Cert.KernelIdeal.Point

open Cert.KernelIdeal Cert.KernelIdeal.Gen Cert.KernelIdeal.Block Cert.KernelIdeal.Trip Idealize.ShloMosaic
  Idealize.ShloMosaic.TcCoe Idealize.ShloMosaic.Tactic Idealize.SL.Sem

variable (c : Dev nD) (i : grid0.Coords) (arg2 : Memref sig .tc .smem S1 .i32) (harg2 : arg2.IsWhole) (arg3 : Memref sig .tc .vmem S1024x512 .f32) (harg3 : arg3.IsWhole) (arg4 : Memref sig .tc .vmem S1024x512 .bf16) (harg4 : arg4.IsWhole) (arg5 : Memref sig .tc .vmem S1024x512 .fp8e4m3) (harg5 : arg5.IsWhole) (arg6 : Memref sig .tc .vmem S8x512 .f32) (harg6 : arg6.IsWhole) (arg7 : Memref sig .tc .vmem S1024x512 .fp8e5m2) (harg7 : arg7.IsWhole) (arg8 : Memref sig .tc .vmem S8x512 .f32) (harg8 : arg8.IsWhole) (arg9 : Memref sig .tc .vmem S1024x512 .f32) (harg9 : arg9.IsWhole) (arg10 : Memref sig .tc .vmem S1024x512 .fp8e4m3) (harg10 : arg10.IsWhole) (arg11 : Memref sig .tc .vmem S8x512 .f32) (harg11 : arg11.IsWhole) (arg12 : Memref sig .tc .vmem S1024x512 .fp8e5m2) (harg12 : arg12.IsWhole) (arg13 : Memref sig .tc .vmem S8x512 .f32) (harg13 : arg13.IsWhole) (x0 : Vec Ideal S1 .i32) (x1 : Vec Ideal S1024x512 .f32) (x2 : Vec Ideal S1024x512 .bf16) (x3 : Vec Ideal S1024x512 .fp8e4m3) (x4 : Vec Ideal S8x512 .f32) (x5 : Vec Ideal S1024x512 .fp8e5m2) (x6 : Vec Ideal S8x512 .f32)

/-- The step that the body reads is the one element of its operand. -/
theorem step_val : kernelRun0_A.sl.r (F := Ideal) c arg2 harg2 x0 = x0 (ix1 0) := by
  sl_unfold_words
  rw [View.readAt_eq_ld, harg2.read_unread, View.ld_apply]
  refine congrArg x0 (funext fun a => Fin.ext ?_)
  fin_cases a
  rw [Rect.idx_unit_val]
  simp

/-- The parameter updates that one grid point leaves. -/
theorem out_delta : out0_A_7 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 = bDelta (x0 (ix1 0)) x1 x2 x3 x4 x5 x6 := by
  funext y
  unfold out0_A_7
  rw [View.read_writes_junk_eq_canon]
  refine View.canon_apply_of_pieces _ _ (View.PiecesOf.mem ?_) y (cover0_A_7 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 y)
  rw [← step_val c arg2 harg2 x0]
  have h := (trips_all Variants.none c none i arg2 harg2 arg3 harg3 arg4 harg4 arg5 harg5 arg6 harg6 arg7 harg7 arg8 harg8 arg9 harg9 arg10 harg10 arg11 harg11 arg12 harg12 arg13 harg13 (kernelRun0_A.sl.r (F := Ideal) c arg2 harg2 x0) (harg3.unread x1) (harg4.unread x2) (harg5.unread x3) (harg6.unread x4) (harg7.unread x5) (harg8.unread x6) _ le_rfl).1
  simp only [harg3.read_unread, harg4.read_unread, harg5.read_unread, harg6.read_unread, harg7.read_unread, harg8.read_unread] at h
  unfold kernelRun0_A
  exact h

/-- The codes of the first moment that one grid point leaves. -/
theorem out_mCodes : out0_A_8 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 = bMCodes x2 x3 x4 := by
  funext y
  unfold out0_A_8
  rw [View.read_writes_junk_eq_canon]
  refine View.canon_apply_of_pieces _ _ (View.PiecesOf.mem ?_) y (cover0_A_8 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 y)
  have h := (trips_all Variants.none c none i arg2 harg2 arg3 harg3 arg4 harg4 arg5 harg5 arg6 harg6 arg7 harg7 arg8 harg8 arg9 harg9 arg10 harg10 arg11 harg11 arg12 harg12 arg13 harg13 (kernelRun0_A.sl.r (F := Ideal) c arg2 harg2 x0) (harg3.unread x1) (harg4.unread x2) (harg5.unread x3) (harg6.unread x4) (harg7.unread x5) (harg8.unread x6) _ le_rfl).2.1
  simp only [harg3.read_unread, harg4.read_unread, harg5.read_unread, harg6.read_unread, harg7.read_unread, harg8.read_unread] at h
  unfold kernelRun0_A
  exact h

/-- The scales of the first moment that one grid point leaves. -/
theorem out_mScale : out0_A_9 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 = bMScale x2 x3 x4 := by
  funext y
  unfold out0_A_9
  rw [View.read_writes_junk_eq_canon]
  refine View.canon_apply_of_pieces _ _ (View.PiecesOf.mem ?_) y (cover0_A_9 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 y)
  have h := (trips_all Variants.none c none i arg2 harg2 arg3 harg3 arg4 harg4 arg5 harg5 arg6 harg6 arg7 harg7 arg8 harg8 arg9 harg9 arg10 harg10 arg11 harg11 arg12 harg12 arg13 harg13 (kernelRun0_A.sl.r (F := Ideal) c arg2 harg2 x0) (harg3.unread x1) (harg4.unread x2) (harg5.unread x3) (harg6.unread x4) (harg7.unread x5) (harg8.unread x6) _ le_rfl).2.2.1
  simp only [harg3.read_unread, harg4.read_unread, harg5.read_unread, harg6.read_unread, harg7.read_unread, harg8.read_unread] at h
  unfold kernelRun0_A
  exact h

/-- The codes of the second moment that one grid point leaves. -/
theorem out_vCodes : out0_A_10 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 = bVCodes x2 x5 x6 := by
  funext y
  unfold out0_A_10
  rw [View.read_writes_junk_eq_canon]
  refine View.canon_apply_of_pieces _ _ (View.PiecesOf.mem ?_) y (cover0_A_10 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 y)
  have h := (trips_all Variants.none c none i arg2 harg2 arg3 harg3 arg4 harg4 arg5 harg5 arg6 harg6 arg7 harg7 arg8 harg8 arg9 harg9 arg10 harg10 arg11 harg11 arg12 harg12 arg13 harg13 (kernelRun0_A.sl.r (F := Ideal) c arg2 harg2 x0) (harg3.unread x1) (harg4.unread x2) (harg5.unread x3) (harg6.unread x4) (harg7.unread x5) (harg8.unread x6) _ le_rfl).2.2.2.1
  simp only [harg3.read_unread, harg4.read_unread, harg5.read_unread, harg6.read_unread, harg7.read_unread, harg8.read_unread] at h
  unfold kernelRun0_A
  exact h

/-- The scales of the second moment that one grid point leaves. -/
theorem out_vScale : out0_A_11 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 = bVScale x2 x5 x6 := by
  funext y
  unfold out0_A_11
  rw [View.read_writes_junk_eq_canon]
  refine View.canon_apply_of_pieces _ _ (View.PiecesOf.mem ?_) y (cover0_A_11 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 y)
  have h := (trips_all Variants.none c none i arg2 harg2 arg3 harg3 arg4 harg4 arg5 harg5 arg6 harg6 arg7 harg7 arg8 harg8 arg9 harg9 arg10 harg10 arg11 harg11 arg12 harg12 arg13 harg13 (kernelRun0_A.sl.r (F := Ideal) c arg2 harg2 x0) (harg3.unread x1) (harg4.unread x2) (harg5.unread x3) (harg6.unread x4) (harg7.unread x5) (harg8.unread x6) _ le_rfl).2.2.2.2
  simp only [harg3.read_unread, harg4.read_unread, harg5.read_unread, harg6.read_unread, harg7.read_unread, harg8.read_unread] at h
  unfold kernelRun0_A
  exact h

end Cert.KernelIdeal.Point

end
-- ==== Proof.Kernel.lean ====
/- What the kernel's five result arrays hold after the run: the array functions of Proof/Arrays.lean of the arguments. -/
module

public import proofs.«01_k».proof.Proof.Gen.KernelIdeal.Value
public import proofs.«01_k».proof.Proof.Point
public import proofs.«01_k».proof.Proof.Arrays

@[expose] public section

set_option maxRecDepth 16384

noncomputable section

namespace Cert.KernelIdeal.After

open Cert.KernelIdeal Cert.KernelIdeal.Gen Cert.KernelIdeal.Block Cert.KernelIdeal.Arrays Idealize.ShloMosaic Idealize.ShloMosaic.TcCoe
  Idealize.ShloMosaic.Tactic Idealize.SL.Sem

variable (m : (ℓ : Loc nD τ sig) → Buf (Elt Ideal) ℓ) (c : Dev nD)

/-- The grid point's block row. -/
def row (t : Fin cfg0.N) : Fin 23 := ⟨t.val / 4, by have : t.val < 92 := t.isLt; omega⟩

/-- The grid point's block column. -/
def col (t : Fin cfg0.N) : Fin 4 := ⟨t.val % 4, by omega⟩

/-- Every window's block index at a grid point. -/
theorem idx : ∀ t : Fin cfg0.N, win0_0.index t = ![0]
    ∧ win0_1.index t = ![t.val / 4, t.val % 4] ∧ win0_2.index t = ![t.val / 4, t.val % 4]
    ∧ win0_3.index t = ![t.val / 4, t.val % 4] ∧ win0_4.index t = ![t.val / 4, t.val % 4]
    ∧ win0_5.index t = ![t.val / 4, t.val % 4] ∧ win0_6.index t = ![t.val / 4, t.val % 4]
    ∧ win0_7.index t = ![t.val / 4, t.val % 4] ∧ win0_8.index t = ![t.val / 4, t.val % 4]
    ∧ win0_9.index t = ![t.val / 4, t.val % 4] ∧ win0_10.index t = ![t.val / 4, t.val % 4]
    ∧ win0_11.index t = ![t.val / 4, t.val % 4] :=
  (by decide +kernel : ∀ t : Fin grid0.N, win0_0.index t = ![0]
    ∧ win0_1.index t = ![t.val / 4, t.val % 4] ∧ win0_2.index t = ![t.val / 4, t.val % 4]
    ∧ win0_3.index t = ![t.val / 4, t.val % 4] ∧ win0_4.index t = ![t.val / 4, t.val % 4]
    ∧ win0_5.index t = ![t.val / 4, t.val % 4] ∧ win0_6.index t = ![t.val / 4, t.val % 4]
    ∧ win0_7.index t = ![t.val / 4, t.val % 4] ∧ win0_8.index t = ![t.val / 4, t.val % 4]
    ∧ win0_9.index t = ![t.val / 4, t.val % 4] ∧ win0_10.index t = ![t.val / 4, t.val % 4]
    ∧ win0_11.index t = ![t.val / 4, t.val % 4])

/-- The argument arrays: parameters, gradients, codes and scales of the two moments, the step. -/
def aP : FVec Ideal S23552x2048 .f32 := m ((c.tc : Thread nD τ).loc main_arg0)
def aG : FVec Ideal S23552x2048 .bf16 := m ((c.tc : Thread nD τ).loc main_arg1)
def aMC : FVec Ideal S23552x2048 .fp8e4m3 :=
  bitcastToFloat (F := Ideal) .fp8e4m3 (m ((c.tc : Thread nD τ).loc main_arg2) : S23552x2048.Idx → BitVec 8)
def aMS : FVec Ideal S184x2048 .f32 := m ((c.tc : Thread nD τ).loc main_arg3)
def aVC : FVec Ideal S23552x2048 .fp8e5m2 :=
  bitcastToFloat (F := Ideal) .fp8e5m2 (m ((c.tc : Thread nD τ).loc main_arg4) : S23552x2048.Idx → BitVec 8)
def aVS : FVec Ideal S184x2048 .f32 := m ((c.tc : Thread nD τ).loc main_arg5)
def aStep : BitVec 32 := (m ((c.tc : Thread nD τ).loc main_arg6) : IVec S_ 32) ix0

/-! ## The operands' blocks are blocks of the argument arrays -/

theorem emb1 (t : Fin cfg0.N) (y : S1024x512.Idx) : (win0_1.blk t).view.emb y = at2 (row t) (col t) y := by
  unfold at2 row col
  blk_ext [idx t]

theorem emb2 (t : Fin cfg0.N) (y : S1024x512.Idx) : (win0_2.blk t).view.emb y = at2 (row t) (col t) y := by
  unfold at2 row col
  blk_ext [idx t]

theorem emb3 (t : Fin cfg0.N) (y : S1024x512.Idx) : (win0_3.blk t).view.emb y = at2 (row t) (col t) y := by
  unfold at2 row col
  blk_ext [idx t]

theorem emb4 (t : Fin cfg0.N) (y : S8x512.Idx) : (win0_4.blk t).view.emb y = atS (row t) (col t) y := by
  unfold atS row col
  blk_ext [idx t]

theorem emb5 (t : Fin cfg0.N) (y : S1024x512.Idx) : (win0_5.blk t).view.emb y = at2 (row t) (col t) y := by
  unfold at2 row col
  blk_ext [idx t]

theorem emb6 (t : Fin cfg0.N) (y : S8x512.Idx) : (win0_6.blk t).view.emb y = atS (row t) (col t) y := by
  unfold atS row col
  blk_ext [idx t]

theorem emb7 (t : Fin cfg0.N) (y : S1024x512.Idx) : (win0_7.blk t).view.emb y = at2 (row t) (col t) y := by
  unfold at2 row col
  blk_ext [idx t]

theorem emb8 (t : Fin cfg0.N) (y : S1024x512.Idx) : (win0_8.blk t).view.emb y = at2 (row t) (col t) y := by
  unfold at2 row col
  blk_ext [idx t]

theorem emb9 (t : Fin cfg0.N) (y : S8x512.Idx) : (win0_9.blk t).view.emb y = atS (row t) (col t) y := by
  unfold atS row col
  blk_ext [idx t]

theorem emb10 (t : Fin cfg0.N) (y : S1024x512.Idx) : (win0_10.blk t).view.emb y = at2 (row t) (col t) y := by
  unfold at2 row col
  blk_ext [idx t]

theorem emb11 (t : Fin cfg0.N) (y : S8x512.Idx) : (win0_11.blk t).view.emb y = atS (row t) (col t) y := by
  unfold atS row col
  blk_ext [idx t]

/-- The codes of the first moment as the kernel's call finds them. -/
theorem entry3 : (V m c main_v0 : FVec Ideal S23552x2048 .fp8e4m3) = aMC m c := by
  unfold aMC
  entry_read
  rfl

/-- The codes of the second moment as the kernel's call finds them. -/
theorem entry5 : (V m c main_v1 : FVec Ideal S23552x2048 .fp8e5m2) = aVC m c := by
  unfold aVC
  entry_read
  rfl

theorem blk1 (t : Fin cfg0.N) : iblk m c 1 t = fun y => aP m c (at2 (row t) (col t) y) := by
  funext y
  blk_simp [iblk]
  rw [emb1]
  rfl

theorem blk2 (t : Fin cfg0.N) : iblk m c 2 t = fun y => aG m c (at2 (row t) (col t) y) := by
  funext y
  blk_simp [iblk]
  rw [emb2]
  rfl

theorem blk4 (t : Fin cfg0.N) : iblk m c 4 t = fun y => aMS m c (atS (row t) (col t) y) := by
  funext y
  blk_simp [iblk]
  rw [emb4]
  rfl

theorem blk6 (t : Fin cfg0.N) : iblk m c 6 t = fun y => aVS m c (atS (row t) (col t) y) := by
  funext y
  blk_simp [iblk]
  rw [emb6]
  rfl

theorem blk3 (t : Fin cfg0.N) : iblk m c 3 t = fun y => aMC m c (at2 (row t) (col t) y) := by
  funext y
  blk_simp [iblk]
  rw [emb3, entry3]

theorem blk5 (t : Fin cfg0.N) : iblk m c 5 t = fun y => aVC m c (at2 (row t) (col t) y) := by
  funext y
  blk_simp [iblk]
  rw [emb5, entry5]

theorem blk0 (t : Fin cfg0.N) : iblk m c 0 t (ix1 0) = aStep m c := by
  unfold aStep
  blk_simp [iblk]
  entry_read
  pointwise

/-! ## The result arrays -/

/-- The parameter updates after the run. -/
theorem arr_delta : (dats m 0 c).arrAt 7 cfg0.N = aDelta (aStep m c) (aP m c) (aG m c) (aMC m c) (aMS m c) (aVC m c) (aVS m c) := by
  refine (dats m 0 c).arrAt_eq_of_covers 7 _ (by decide +kernel) fun t hf y => ?_
  blk_simp
  rw [after0_7]
  unfold outsAt0
  dsimp only
  rw [Point.out_delta, emb7, blk0, blk1, blk2, blk3, blk4, blk5, blk6]
  exact bDelta_at _ _ _ _ _ _ _ _ _ y

/-- The codes of the first moment after the run. -/
theorem arr_mCodes : (dats m 0 c).arrAt 8 cfg0.N = aMCodes (aG m c) (aMC m c) (aMS m c) := by
  refine (dats m 0 c).arrAt_eq_of_covers 8 _ (by decide +kernel) fun t hf y => ?_
  blk_simp
  rw [after0_8]
  unfold outsAt0
  dsimp only
  rw [Point.out_mCodes, emb8, blk2, blk3, blk4]
  exact bMCodes_at _ _ _ _ _ y

/-- The scales of the first moment after the run. -/
theorem arr_mScale : (dats m 0 c).arrAt 9 cfg0.N = aMScale (aG m c) (aMC m c) (aMS m c) := by
  refine (dats m 0 c).arrAt_eq_of_covers 9 _ (by decide +kernel) fun t hf y => ?_
  blk_simp
  rw [after0_9]
  unfold outsAt0
  dsimp only
  rw [Point.out_mScale, emb9, blk2, blk3, blk4]
  exact bMScale_at _ _ _ _ _ y

/-- The codes of the second moment after the run. -/
theorem arr_vCodes : (dats m 0 c).arrAt 10 cfg0.N = aVCodes (aG m c) (aVC m c) (aVS m c) := by
  refine (dats m 0 c).arrAt_eq_of_covers 10 _ (by decide +kernel) fun t hf y => ?_
  blk_simp
  rw [after0_10]
  unfold outsAt0
  dsimp only
  rw [Point.out_vCodes, emb10, blk2, blk5, blk6]
  exact bVCodes_at _ _ _ _ _ y

/-- The scales of the second moment after the run. -/
theorem arr_vScale : (dats m 0 c).arrAt 11 cfg0.N = aVScale (aG m c) (aVC m c) (aVS m c) := by
  refine (dats m 0 c).arrAt_eq_of_covers 11 _ (by decide +kernel) fun t hf y => ?_
  blk_simp
  rw [after0_11]
  unfold outsAt0
  dsimp only
  rw [Point.out_vScale, emb11, blk2, blk5, blk6]
  exact bVScale_at _ _ _ _ _ y

end Cert.KernelIdeal.After

end
-- ==== Proof.Reference.lean ====
/- The reference's five result arrays after the run: the array functions of Proof/RefArrays.lean of the arguments. -/
module

public import proofs.«01_k».proof.Proof.RefArrays

@[expose] public section

set_option maxRecDepth 16384

noncomputable section

namespace Cert.ReferenceIdeal.After

open Cert.ReferenceIdeal Cert.ReferenceIdeal.Gen Cert.ReferenceIdeal.Payloads Idealize.ShloMosaic Idealize.ShloMosaic.TcCoe
  Idealize.ShloMosaic.Tactic Idealize.SL.Sem

variable (m : (ℓ : Loc nD τ sig) → Buf (Elt Ideal) ℓ) (c : Dev nD)

/-- Every window's block index at the one grid point. -/
theorem idx : win0_0.index t0_0 = ![0] ∧ win0_1.index t0_0 = ![0, 0] ∧ win0_2.index t0_0 = ![0, 0]
    ∧ win0_3.index t0_0 = ![0, 0] ∧ win0_4.index t0_0 = ![0, 0] ∧ win0_5.index t0_0 = ![0, 0] ∧ win0_6.index t0_0 = ![0, 0]
    ∧ win0_7.index t0_0 = ![0, 0] ∧ win0_8.index t0_0 = ![0, 0] ∧ win0_9.index t0_0 = ![0, 0]
    ∧ win0_10.index t0_0 = ![0, 0] ∧ win0_11.index t0_0 = ![0, 0] := by decide +kernel

/-- The argument arrays: parameters, gradients, codes and scales of the two moments, the step. -/
def aP : FVec Ideal S23552x2048 .f32 := m ((c.tc : Thread nD τ).loc main_arg0)
def aG : FVec Ideal S23552x2048 .bf16 := m ((c.tc : Thread nD τ).loc main_arg1)
def aMC : FVec Ideal S23552x2048 .fp8e4m3 :=
  bitcastToFloat (F := Ideal) .fp8e4m3 (m ((c.tc : Thread nD τ).loc main_arg2) : S23552x2048.Idx → BitVec 8)
def aMS : FVec Ideal S184x2048 .f32 := m ((c.tc : Thread nD τ).loc main_arg3)
def aVC : FVec Ideal S23552x2048 .fp8e5m2 :=
  bitcastToFloat (F := Ideal) .fp8e5m2 (m ((c.tc : Thread nD τ).loc main_arg4) : S23552x2048.Idx → BitVec 8)
def aVS : FVec Ideal S184x2048 .f32 := m ((c.tc : Thread nD τ).loc main_arg5)
def aStep : BitVec 32 := (m ((c.tc : Thread nD τ).loc main_arg6) : IVec S_ 32) ix0

/-! ## The operands' blocks are the argument arrays -/

theorem emb1 (y : S23552x2048.Idx) : (win0_1.blk t0_0).view.emb y = y := by
  blk_ext [idx]

theorem emb2 (y : S23552x2048.Idx) : (win0_2.blk t0_0).view.emb y = y := by
  blk_ext [idx]

theorem emb3 (y : S23552x2048.Idx) : (win0_3.blk t0_0).view.emb y = y := by
  blk_ext [idx]

theorem emb4 (y : S184x2048.Idx) : (win0_4.blk t0_0).view.emb y = y := by
  blk_ext [idx]

theorem emb5 (y : S23552x2048.Idx) : (win0_5.blk t0_0).view.emb y = y := by
  blk_ext [idx]

theorem emb6 (y : S184x2048.Idx) : (win0_6.blk t0_0).view.emb y = y := by
  blk_ext [idx]

theorem emb7 (y : S23552x2048.Idx) : (win0_7.blk t0_0).view.emb y = y := by
  blk_ext [idx]

theorem emb8 (y : S23552x2048.Idx) : (win0_8.blk t0_0).view.emb y = y := by
  blk_ext [idx]

theorem emb9 (y : S184x2048.Idx) : (win0_9.blk t0_0).view.emb y = y := by
  blk_ext [idx]

theorem emb10 (y : S23552x2048.Idx) : (win0_10.blk t0_0).view.emb y = y := by
  blk_ext [idx]

theorem emb11 (y : S184x2048.Idx) : (win0_11.blk t0_0).view.emb y = y := by
  blk_ext [idx]

/-- The codes of the first moment as the reference's call finds them. -/
theorem entry3 : (V m c main_v0 : FVec Ideal S23552x2048 .fp8e4m3) = aMC m c := by
  unfold aMC
  entry_read
  rfl

/-- The codes of the second moment as the reference's call finds them. -/
theorem entry5 : (V m c main_v1 : FVec Ideal S23552x2048 .fp8e5m2) = aVC m c := by
  unfold aVC
  entry_read
  rfl

theorem blk0 : iblk m c 0 t0_0 (ix1 0) = aStep m c := by
  unfold aStep
  blk_simp [iblk]
  entry_read
  pointwise

theorem blk1 : iblk m c 1 t0_0 = aP m c := by
  funext y
  blk_simp [iblk]
  rw [emb1]
  rfl

theorem blk2 : iblk m c 2 t0_0 = aG m c := by
  funext y
  blk_simp [iblk]
  rw [emb2]
  rfl

theorem blk3 : iblk m c 3 t0_0 = aMC m c := by
  funext y
  blk_simp [iblk]
  rw [emb3, entry3]

theorem blk4 : iblk m c 4 t0_0 = aMS m c := by
  funext y
  blk_simp [iblk]
  rw [emb4]
  rfl

theorem blk5 : iblk m c 5 t0_0 = aVC m c := by
  funext y
  blk_simp [iblk]
  rw [emb5, entry5]

theorem blk6 : iblk m c 6 t0_0 = aVS m c := by
  funext y
  blk_simp [iblk]
  rw [emb6]
  rfl

/-! ## The result arrays -/

/-- The parameter updates after the run. -/
theorem arr_delta : (dats m 0 c).arrAt 7 cfg0.N = rDelta (aStep m c) (aP m c) (aG m c) (aMC m c) (aMS m c) (aVC m c) (aVS m c) := by
  refine (dats m 0 c).arrAt_eq_of_after_last 7 t0_0 (by decide +kernel) _ fun j => ?_
  blk_simp
  rw [after0_7]
  unfold outsAt0
  dsimp only
  rw [Point.out_delta, blk0, blk1, blk2, blk3, blk4, blk5, blk6]
  exact delta_at _ _ _ _ _ _ _ j

/-- The codes of the first moment after the run. -/
theorem arr_mCodes : (dats m 0 c).arrAt 8 cfg0.N = rMCodes (aG m c) (aMC m c) (aMS m c) := by
  refine (dats m 0 c).arrAt_eq_of_after_last 8 t0_0 (by decide +kernel) _ fun j => ?_
  blk_simp
  rw [after0_8]
  unfold outsAt0
  dsimp only
  rw [Point.out_mCodes, blk2, blk3, blk4]
  exact mCodes_at _ _ _ j

/-- The scales of the first moment after the run. -/
theorem arr_mScale : (dats m 0 c).arrAt 9 cfg0.N = rMScale (aG m c) (aMC m c) (aMS m c) := by
  refine (dats m 0 c).arrAt_eq_of_after_last 9 t0_0 (by decide +kernel) _ fun j => ?_
  blk_simp
  rw [after0_9]
  unfold outsAt0
  dsimp only
  rw [Point.out_mScale, blk2, blk3, blk4]
  exact mScale_at _ _ _ j

/-- The codes of the second moment after the run. -/
theorem arr_vCodes : (dats m 0 c).arrAt 10 cfg0.N = rVCodes (aG m c) (aVC m c) (aVS m c) := by
  refine (dats m 0 c).arrAt_eq_of_after_last 10 t0_0 (by decide +kernel) _ fun j => ?_
  blk_simp
  rw [after0_10]
  unfold outsAt0
  dsimp only
  rw [Point.out_vCodes, blk2, blk5, blk6]
  exact vCodes_at _ _ _ j

/-- The scales of the second moment after the run. -/
theorem arr_vScale : (dats m 0 c).arrAt 11 cfg0.N = rVScale (aG m c) (aVC m c) (aVS m c) := by
  refine (dats m 0 c).arrAt_eq_of_after_last 11 t0_0 (by decide +kernel) _ fun j => ?_
  blk_simp
  rw [after0_11]
  unfold outsAt0
  dsimp only
  rw [Point.out_vScale, blk2, blk5, blk6]
  exact vScale_at _ _ _ j

end Cert.ReferenceIdeal.After

end
-- ==== Proof.Algebra.lean ====
/- The value claim: after both runs, from memories in the stated ranges that agree on the arguments, the five result arrays are equal. -/
module

public import proofs.«01_k».proof.Defs
public import proofs.«01_k».proof.Proof.Agree
public import proofs.«01_k».proof.Proof.Ranges
public import proofs.«01_k».proof.Proof.Kernel
public import proofs.«01_k».proof.Proof.Reference
public import proofs.«01_k».proof.Proof.Gen.KernelIdeal.Value
public import proofs.«01_k».proof.Proof.Gen.ReferenceIdeal.Value

@[expose] public section

set_option maxRecDepth 16384

noncomputable section

namespace Cert.Algebra

open Idealize.ShloMosaic Idealize.ShloMosaic.TcCoe Idealize.SL.Sem Cert.KernelIdeal Cert.KernelIdeal.Gen

/-- Initial memories of the kernel and of the reference. -/
abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

variable [hPre_ranges : Cert.Pre_ranges.Facts] (m : KMem) (c : Dev nD)

section
open Cert.KernelIdeal.After
variable (h : Pre_KernelIdeal_ranges m)
include h

/-- The gradients are bounded reals. -/
theorem grads (y) : ∃ a : ℝ, aG m c y = (a : EReal) ∧ |a| ≤ (2 : ℝ) ^ (64 : ℤ) := Ranges.grad _ _ _ _ _ _ _ (h c).1 y

/-- The first moment's codes are bounded reals. -/
theorem codesM (y) : ∃ a : ℝ, aMC m c y = (a : EReal) ∧ |a| ≤ 448 :=
  have w := Ranges.wordsM _ _ _ _ _ _ _ (h c).2.1 y
  Bounds.codeM_real _ w.1 w.2

/-- The first moment's scales are bounded reals. -/
theorem scalesM (y) : ∃ a : ℝ, aMS m c y = (a : EReal) ∧ |a| ≤ (2 : ℝ) ^ (125 : ℤ) :=
  Ranges.scalesM _ _ _ _ _ _ _ (h c).2.2.1 y

/-- The second moment's codes are bounded reals, not negative. -/
theorem codesV (y) : ∃ a : ℝ, aVC m c y = (a : EReal) ∧ 0 ≤ a ∧ a ≤ 57344 :=
  Bounds.codeV_real _ (Ranges.wordsV _ _ _ _ _ _ _ (h c).2.2.2.1 y)

/-- The second moment's scales are bounded reals, not negative. -/
theorem scalesV (y) : ∃ a : ℝ, aVS m c y = (a : EReal) ∧ 0 ≤ a ∧ a ≤ (2 : ℝ) ^ (125 : ℤ) :=
  Ranges.scalesV _ _ _ _ _ _ _ (h c).2.2.2.2.1 y

/-- The step is at least 1. -/
theorem steps : 1 ≤ (aStep m c).toInt := Ranges.step _ _ _ _ _ _ _ (h c).2.2.2.2.2

end

variable (m' : RMem)

/-- The two programs' five result arrays are equal: updates, codes and scales of the first moment, codes and scales of the second. -/
theorem results (h : Pre_KernelIdeal_ranges m)
    (e : Cert.ReferenceIdeal.After.aP m' c = After.aP m c ∧ Cert.ReferenceIdeal.After.aG m' c = After.aG m c
      ∧ Cert.ReferenceIdeal.After.aMC m' c = After.aMC m c ∧ Cert.ReferenceIdeal.After.aMS m' c = After.aMS m c
      ∧ Cert.ReferenceIdeal.After.aVC m' c = After.aVC m c ∧ Cert.ReferenceIdeal.After.aVS m' c = After.aVS m c
      ∧ Cert.ReferenceIdeal.After.aStep m' c = After.aStep m c) :
    (Cert.ReferenceIdeal.Gen.dats m' 0 c).arrAt 7 Cert.ReferenceIdeal.cfg0.N = (dats m 0 c).arrAt 7 cfg0.N
    ∧ (Cert.ReferenceIdeal.Gen.dats m' 0 c).arrAt 8 Cert.ReferenceIdeal.cfg0.N = (dats m 0 c).arrAt 8 cfg0.N
    ∧ (Cert.ReferenceIdeal.Gen.dats m' 0 c).arrAt 9 Cert.ReferenceIdeal.cfg0.N = (dats m 0 c).arrAt 9 cfg0.N
    ∧ (Cert.ReferenceIdeal.Gen.dats m' 0 c).arrAt 10 Cert.ReferenceIdeal.cfg0.N = (dats m 0 c).arrAt 10 cfg0.N
    ∧ (Cert.ReferenceIdeal.Gen.dats m' 0 c).arrAt 11 Cert.ReferenceIdeal.cfg0.N = (dats m 0 c).arrAt 11 cfg0.N := by
  obtain ⟨e0, e1, e2, e3, e4, e5, e6⟩ := e
  have hG := grads m c h
  have hMC := codesM m c h
  have hMS := scalesM m c h
  have hVC := codesV m c h
  have hVS := scalesV m c h
  refine ⟨?_, ?_, ?_, ?_, ?_⟩
  · refine (Cert.ReferenceIdeal.After.arr_delta m' c).trans (Eq.trans ?_ (After.arr_delta m c).symm)
    rw [e0, e1, e2, e3, e4, e5, e6]
    exact Agree.delta _ _ _ _ _ _ _ hG hMC hMS hVC hVS (steps m c h)
  · refine (Cert.ReferenceIdeal.After.arr_mCodes m' c).trans (Eq.trans ?_ (After.arr_mCodes m c).symm)
    rw [e1, e2, e3]
    exact Agree.mCodes _ _ _ hG hMC hMS
  · refine (Cert.ReferenceIdeal.After.arr_mScale m' c).trans (Eq.trans ?_ (After.arr_mScale m c).symm)
    rw [e1, e2, e3]
    exact Agree.mScale _ _ _ hG hMC hMS
  · refine (Cert.ReferenceIdeal.After.arr_vCodes m' c).trans (Eq.trans ?_ (After.arr_vCodes m c).symm)
    rw [e1, e4, e5]
    exact Agree.vCodes _ _ _ hG hVC hVS
  · refine (Cert.ReferenceIdeal.After.arr_vScale m' c).trans (Eq.trans ?_ (After.arr_vScale m c).symm)
    rw [e1, e4, e5]
    exact Agree.vScale _ _ _ hG hVC hVS

end Cert.Algebra

end
-- ==== Proof.lean ====
module

public import proofs.«01_k».proof.Defs
public import proofs.«01_k».proof.Proof.Algebra
public import proofs.«01_k».proof.Proof.Gen.KernelIdeal.Value
public import proofs.«01_k».proof.Proof.Gen.ReferenceIdeal.Value
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_ranges
public import Idealize.ShloMosaic.Adequacy
public import Idealize.ShloMosaic.Init

@[expose] public section

noncomputable section

namespace Cert.Proof

open Idealize.ShloMosaic Idealize.SL.Sem Cert.Kernel

/-- The named constants stand for the values the claim states. -/
theorem preserves : Cert.preserves_Kernel_KernelIdeal :=
  ⟨IdealRules.named_const.statement Cert.KernelIdeal.κ "log2_beta1" .f32 0xBE1BA6B5#32 (((Real.log (7549747 / 8388608)) * (Real.log 2)⁻¹ : ℝ) : EReal) rfl,
    IdealRules.named_const.statement Cert.KernelIdeal.κ "log2_beta2" .f32 0xBABD3069#32 (((Real.log (16760439 / 16777216)) * (Real.log 2)⁻¹ : ℝ) : EReal) rfl,
    IdealRules.named_const.statement Cert.KernelIdeal.κ "eps_over_lr" .f32 0x3727C5AC#32 ((1 / 100000 : ℝ) : EReal) rfl,
    IdealRules.named_const.statement Cert.KernelIdeal.κ "minus_lr_decay" .f32 0xB727C5AC#32 ((-1 / 100000 : ℝ) : EReal) rfl⟩

/-- The kernel and the reference end with equal results. -/
theorem algebraic [hPre_ranges : Cert.Pre_ranges.Facts] : Cert.algebraic_KernelIdeal_ReferenceIdeal_pre_ranges
    (hKernelIdeal := Cert.KernelIdeal.Gen.facts) (hReferenceIdeal := Cert.ReferenceIdeal.Gen.facts) := by
  intro m ρ m' ρ' hpre hagree
  have key := fun c => Algebra.results m c m' hpre
    ⟨(hagree c).1, (hagree c).2.1, congrArg (bitcastToFloat (F := Ideal) (s := Cert.KernelIdeal.S23552x2048) .fp8e4m3) (hagree c).2.2.1, (hagree c).2.2.2.1,
      congrArg (bitcastToFloat (F := Ideal) (s := Cert.KernelIdeal.S23552x2048) .fp8e5m2) (hagree c).2.2.2.2.1, (hagree c).2.2.2.2.2.1,
      congrArg (fun T : IVec Cert.KernelIdeal.S_ 32 => T ix0) (hagree c).2.2.2.2.2.2⟩
  refine ⟨_, _, _, _, _, Cert.KernelIdeal.Value.run_blocks m ρ, ?_⟩
  refine (θ_run _ _ _).mono (fun r h c => ?_) (Cert.ReferenceIdeal.Value.run_blocks m' ρ')
  obtain ⟨k7, k8, k9, k10, k11⟩ := key c
  obtain ⟨h7, h8, h9, h10, h11, hrest⟩ := h c
  exact ⟨h7.trans k7, h8.trans k8, h9.trans k9, h10.trans k10, h11.trans k11, hrest⟩

/-- Every claim. -/
theorem claim : Cert.Claim := ⟨Cert.Kernel.Gen.facts, Cert.KernelIdeal.Gen.facts, Cert.ReferenceIdeal.Gen.facts, Cert.Pre_ranges.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, preserves,
  algebraic (hPre_ranges := Cert.Pre_ranges.Gen.facts)⟩

end Cert.Proof

end
